-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S5x512x2048 : Shape := ⟨3, ![5, 512, 2048]⟩
abbrev S6 : Shape := ⟨1, ![6]⟩
abbrev S5x6 : Shape := ⟨2, ![5, 6]⟩
abbrev S_ : Shape := ⟨0, ![]⟩
abbrev S1x1 : Shape := ⟨2, ![1, 1]⟩
abbrev S1x512x2048 : Shape := ⟨3, ![1, 512, 2048]⟩
abbrev S128x2048 : Shape := ⟨2, ![128, 2048]⟩
abbrev S1 : Shape := ⟨1, ![1]⟩
abbrev S40x2048 : Shape := ⟨2, ![40, 2048]⟩
abbrev S48x2048 : Shape := ⟨2, ![48, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S5x512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 1 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev barrier0 : Sem sig := 0

abbrev nD : Nat := 8
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32_47 : BitVec 32 := 0#32
  let v93 : BitVec 1 := Scalar.cmpi .eq arg0 c0_i32_47
  let v94 : BitVec 32 := Scalar.extui v93
  let c0_i32_48 : BitVec 32 := 0#32
  let v95 : BitVec 1 := Scalar.cmpi .ne v94 c0_i32_48
  v95

def k0_dev1 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v140 : BitVec 32 := Scalar.muli v2 c4_i32_74
  let v141 : BitVec 32 := Scalar.addi c0_i32_75 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v142 : BitVec 32 := Scalar.muli v5 c2_i32_76
  let v143 : BitVec 32 := Scalar.addi v141 v142
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.subi c1_i32_37 v8
  let c1_i32_77 : BitVec 32 := 1#32
  let v144 : BitVec 32 := Scalar.muli v82 c1_i32_77
  let v145 : BitVec 32 := Scalar.addi v143 v144
  v145.toNat
def k0_dev2 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c1_i32_4 : BitVec 32 := 1#32
  let v14 : BitVec 32 := Scalar.addi v13 c1_i32_4
  let c4_i32_5 : BitVec 32 := 4#32
  let v15 : BitVec 32 := Scalar.remsi v14 c4_i32_5
  let c0_i32 : BitVec 32 := 0#32
  let v19 : BitVec 1 := Scalar.cmpi .sgt v15 c0_i32
  let v20 : BitVec 32 := Scalar.extui v19
  let c0_i32_9 : BitVec 32 := 0#32
  let v21 : BitVec 1 := Scalar.cmpi .slt v15 c0_i32_9
  let v22 : BitVec 32 := Scalar.extui v21
  let v23 : BitVec 32 := Scalar.subi v20 v22
  let c2_i32_8 : BitVec 32 := 2#32
  let c0_i32_10 : BitVec 32 := 0#32
  let v24 : BitVec 1 := Scalar.cmpi .sgt c2_i32_8 c0_i32_10
  let v25 : BitVec 32 := Scalar.extui v24
  let c0_i32_11 : BitVec 32 := 0#32
  let v26 : BitVec 1 := Scalar.cmpi .slt c2_i32_8 c0_i32_11
  let v27 : BitVec 32 := Scalar.extui v26
  let v28 : BitVec 32 := Scalar.subi v25 v27
  let v29 : BitVec 1 := Scalar.cmpi .ne v23 v28
  let v30 : BitVec 32 := Scalar.remsi v15 c2_i32_8
  let c0_i32_12 : BitVec 32 := 0#32
  let v31 : BitVec 1 := Scalar.cmpi .ne v30 c0_i32_12
  let v32 : BitVec 1 := Scalar.andi v29 v31
  let v18 : BitVec 32 := Scalar.divsi v15 c2_i32_8
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v15 c4_i32_14
  let c2_i32_15 : BitVec 32 := 2#32
  let c0_i32_16 : BitVec 32 := 0#32
  let v36 : BitVec 1 := Scalar.cmpi .eq c2_i32_15 c0_i32_16
  let c1_i32_17 : BitVec 32 := 1#32
  let v37 : BitVec 32 := Scalar.select v36 c1_i32_17 c2_i32_15
  let v38 : BitVec 32 := Scalar.remsi v35 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let v46 : BitVec 32 := Scalar.addi v34 v45
  let c2_i32_21 : BitVec 32 := 2#32
  let v47 : BitVec 32 := Scalar.muli c2_i32_21 v34
  let v48 : BitVec 32 := Scalar.muli v47 v45
  let v49 : BitVec 32 := Scalar.subi v46 v48
  let c4_i32_79 : BitVec 32 := 4#32
  let v146 : BitVec 32 := Scalar.muli v49 c4_i32_79
  let v147 : BitVec 32 := Scalar.addi c0_i32_80 v146
  let c2_i32_81 : BitVec 32 := 2#32
  let v148 : BitVec 32 := Scalar.muli v34 c2_i32_81
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v150 : BitVec 32 := Scalar.muli v8 c1_i32_82
  let v151 : BitVec 32 := Scalar.addi v149 v150
  v151.toNat
def k0_dev3 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c3_i32_6 : BitVec 32 := 3#32
  let v16 : BitVec 32 := Scalar.addi v13 c3_i32_6
  let c4_i32_7 : BitVec 32 := 4#32
  let v17 : BitVec 32 := Scalar.remsi v16 c4_i32_7
  let c0_i32_23 : BitVec 32 := 0#32
  let v51 : BitVec 1 := Scalar.cmpi .sgt v17 c0_i32_23
  let v52 : BitVec 32 := Scalar.extui v51
  let c0_i32_24 : BitVec 32 := 0#32
  let v53 : BitVec 1 := Scalar.cmpi .slt v17 c0_i32_24
  let v54 : BitVec 32 := Scalar.extui v53
  let v55 : BitVec 32 := Scalar.subi v52 v54
  let c2_i32_22 : BitVec 32 := 2#32
  let c0_i32_25 : BitVec 32 := 0#32
  let v56 : BitVec 1 := Scalar.cmpi .sgt c2_i32_22 c0_i32_25
  let v57 : BitVec 32 := Scalar.extui v56
  let c0_i32_26 : BitVec 32 := 0#32
  let v58 : BitVec 1 := Scalar.cmpi .slt c2_i32_22 c0_i32_26
  let v59 : BitVec 32 := Scalar.extui v58
  let v60 : BitVec 32 := Scalar.subi v57 v59
  let v61 : BitVec 1 := Scalar.cmpi .ne v55 v60
  let v62 : BitVec 32 := Scalar.remsi v17 c2_i32_22
  let c0_i32_27 : BitVec 32 := 0#32
  let v63 : BitVec 1 := Scalar.cmpi .ne v62 c0_i32_27
  let v64 : BitVec 1 := Scalar.andi v61 v63
  let v50 : BitVec 32 := Scalar.divsi v17 c2_i32_22
  let c1_i32_28 : BitVec 32 := 1#32
  let v65 : BitVec 32 := Scalar.subi v50 c1_i32_28
  let v66 : BitVec 32 := Scalar.select v64 v65 v50
  let c4_i32_29 : BitVec 32 := 4#32
  let v67 : BitVec 32 := Scalar.remsi v17 c4_i32_29
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v67 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.addi v66 v77
  let c2_i32_36 : BitVec 32 := 2#32
  let v79 : BitVec 32 := Scalar.muli c2_i32_36 v66
  let v80 : BitVec 32 := Scalar.muli v79 v77
  let v81 : BitVec 32 := Scalar.subi v78 v80
  let c4_i32_84 : BitVec 32 := 4#32
  let v152 : BitVec 32 := Scalar.muli v81 c4_i32_84
  let v153 : BitVec 32 := Scalar.addi c0_i32_85 v152
  let c2_i32_86 : BitVec 32 := 2#32
  let v154 : BitVec 32 := Scalar.muli v66 c2_i32_86
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v156 : BitVec 32 := Scalar.muli v8 c1_i32_87
  let v157 : BitVec 32 := Scalar.addi v155 v156
  v157.toNat
def k0_cond2 (i : grid0.Coords) : BitVec 1 :=
  let arg0 : BitVec 32 := BitVec.ofNat 32 (i 0).val
  let c1_i32_49 : BitVec 32 := 1#32
  let v96 : BitVec 1 := Scalar.cmpi .sge arg0 c1_i32_49
  let c16_i32 : BitVec 32 := 16#32
  let v97 : BitVec 1 := Scalar.cmpi .sle arg0 c16_i32
  let v98 : BitVec 1 := Scalar.andi v96 v97
  let v99 : BitVec 32 := Scalar.extui v98
  let c0_i32_50 : BitVec 32 := 0#32
  let v100 : BitVec 1 := Scalar.cmpi .ne v99 c0_i32_50
  v100

def k0_off1 (i : grid0.Coords) : Fin 2 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c0_i32_76 : BitVec 32 := 0#32
  ![v86.toNat, 0]
def k0_off2 (i : grid0.Coords) : Fin 3 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c0_i32_82 : BitVec 32 := 0#32
  let c0_i32_83 : BitVec 32 := 0#32
  ![v86.toNat, 0, 0]
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c128_i32_74 : BitVec 32 := 128#32
  let v141 : BitVec 32 := Scalar.muli v13 c128_i32_74
  let c0_i32_75 : BitVec 32 := 0#32
  let v142 : BitVec 32 := Scalar.addi v141 c0_i32_75
  let c0_i32_84 : BitVec 32 := 0#32
  ![v142.toNat, 0]
def k0_cond3 (i : grid0.Coords) : BitVec 1 :=
  let arg0 : BitVec 32 := BitVec.ofNat 32 (i 0).val
  let c2_i32_51 : BitVec 32 := 2#32
  let v101 : BitVec 1 := Scalar.cmpi .sge arg0 c2_i32_51
  let c17_i32 : BitVec 32 := 17#32
  let v102 : BitVec 1 := Scalar.cmpi .sle arg0 c17_i32
  let v103 : BitVec 1 := Scalar.andi v101 v102
  let v104 : BitVec 32 := Scalar.extui v103
  let c0_i32_52 : BitVec 32 := 0#32
  let v105 : BitVec 1 := Scalar.cmpi .ne v104 c0_i32_52
  v105

def k0_off4 (i : grid0.Coords) : Fin 2 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c1_i32_76 : BitVec 32 := 1#32
  ![v89.toNat, 1]
def k0_off5 (i : grid0.Coords) : Fin 3 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c0_i32_82 : BitVec 32 := 0#32
  let c0_i32_83 : BitVec 32 := 0#32
  ![v89.toNat, 0, 0]
def k0_off6 (d0 : Dev nD) (c3_i32_6 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let v16 : BitVec 32 := Scalar.addi v13 c3_i32_6
  let c4_i32_7 : BitVec 32 := 4#32
  let v17 : BitVec 32 := Scalar.remsi v16 c4_i32_7
  let c128_i32_74 : BitVec 32 := 128#32
  let v141 : BitVec 32 := Scalar.muli v17 c128_i32_74
  let c0_i32_75 : BitVec 32 := 0#32
  let v142 : BitVec 32 := Scalar.addi v141 c0_i32_75
  let c0_i32_84 : BitVec 32 := 0#32
  ![v142.toNat, 0]
def k0_off7 (i : grid0.Coords) : Fin 2 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c2_i32_92 : BitVec 32 := 2#32
  ![v89.toNat, 2]
def k0_cond4 (i : grid0.Coords) : BitVec 1 :=
  let arg0 : BitVec 32 := BitVec.ofNat 32 (i 0).val
  let c16_i32_55 : BitVec 32 := 16#32
  let v108 : BitVec 1 := Scalar.cmpi .slt arg0 c16_i32_55
  let v109 : BitVec 32 := Scalar.extui v108
  let c0_i32_56 : BitVec 32 := 0#32
  let v110 : BitVec 1 := Scalar.cmpi .ne v109 c0_i32_56
  v110

def k0_off8 (i : grid0.Coords) : Fin 2 → Nat :=
  let arg0 : BitVec 32 := BitVec.ofNat 32 (i 0).val
  let c5_i32 : BitVec 32 := 5#32
  let v83 : BitVec 32 := Scalar.remsi arg0 c5_i32
  let c0_i32_76 : BitVec 32 := 0#32
  ![v83.toNat, 0]
def k0_off9 (i : grid0.Coords) : Fin 3 → Nat :=
  let arg0 : BitVec 32 := BitVec.ofNat 32 (i 0).val
  let c5_i32 : BitVec 32 := 5#32
  let v83 : BitVec 32 := Scalar.remsi arg0 c5_i32
  let c0_i32_82 : BitVec 32 := 0#32
  let c0_i32_83 : BitVec 32 := 0#32
  ![v83.toNat, 0, 0]
def k0_off10 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c128_i32_74 : BitVec 32 := 128#32
  let v141 : BitVec 32 := Scalar.muli v13 c128_i32_74
  let c0_i32_75 : BitVec 32 := 0#32
  let v142 : BitVec 32 := Scalar.addi v141 c0_i32_75
  let c0_i32_84 : BitVec 32 := 0#32
  ![v142.toNat, 0]
def k0_dev4 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v143 : BitVec 32 := Scalar.muli v2 c4_i32_78
  let v144 : BitVec 32 := Scalar.addi c0_i32_79 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v145 : BitVec 32 := Scalar.muli v5 c2_i32_80
  let v146 : BitVec 32 := Scalar.addi v144 v145
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.subi c1_i32_37 v8
  let c1_i32_81 : BitVec 32 := 1#32
  let v147 : BitVec 32 := Scalar.muli v82 c1_i32_81
  let v148 : BitVec 32 := Scalar.addi v146 v147
  v148.toNat
def k0_off11 (i : grid0.Coords) : Fin 2 → Nat :=
  let arg0 : BitVec 32 := BitVec.ofNat 32 (i 0).val
  let c5_i32 : BitVec 32 := 5#32
  let v83 : BitVec 32 := Scalar.remsi arg0 c5_i32
  let c5_i32_90 : BitVec 32 := 5#32
  ![v83.toNat, 5]
def k0_off12 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c2_i32_53 : BitVec 32 := 2#32
  let v106 : BitVec 32 := Scalar.addi v13 c2_i32_53
  let c4_i32_54 : BitVec 32 := 4#32
  let v107 : BitVec 32 := Scalar.remsi v106 c4_i32_54
  let c128_i32_88 : BitVec 32 := 128#32
  let v159 : BitVec 32 := Scalar.muli v107 c128_i32_88
  let c0_i32_89 : BitVec 32 := 0#32
  let v160 : BitVec 32 := Scalar.addi v159 c0_i32_89
  let c0_i32_98 : BitVec 32 := 0#32
  ![v160.toNat, 0]
def k0_dev5 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_92 : BitVec 32 := 4#32
  let v161 : BitVec 32 := Scalar.muli v2 c4_i32_92
  let v162 : BitVec 32 := Scalar.addi c0_i32_93 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_94 : BitVec 32 := 2#32
  let v163 : BitVec 32 := Scalar.muli v5 c2_i32_94
  let v164 : BitVec 32 := Scalar.addi v162 v163
  let c1_i32_37 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v82 : BitVec 32 := Scalar.subi c1_i32_37 v8
  let c1_i32_95 : BitVec 32 := 1#32
  let v165 : BitVec 32 := Scalar.muli v82 c1_i32_95
  let v166 : BitVec 32 := Scalar.addi v164 v165
  v166.toNat
def k0_cond5 (i : grid0.Coords) : BitVec 1 :=
  let arg0 : BitVec 32 := BitVec.ofNat 32 (i 0).val
  let c1_i32_57 : BitVec 32 := 1#32
  let v111 : BitVec 1 := Scalar.cmpi .sge arg0 c1_i32_57
  let c16_i32_58 : BitVec 32 := 16#32
  let v112 : BitVec 1 := Scalar.cmpi .sle arg0 c16_i32_58
  let v113 : BitVec 1 := Scalar.andi v111 v112
  let v114 : BitVec 32 := Scalar.extui v113
  let c0_i32_59 : BitVec 32 := 0#32
  let v115 : BitVec 1 := Scalar.cmpi .ne v114 c0_i32_59
  v115

def k0_off13 (i : grid0.Coords) : Fin 2 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c1_i32_76 : BitVec 32 := 1#32
  ![v86.toNat, 1]
def k0_off14 (i : grid0.Coords) : Fin 3 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c0_i32_82 : BitVec 32 := 0#32
  let c0_i32_83 : BitVec 32 := 0#32
  ![v86.toNat, 0, 0]
def k0_off15 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c128_i32_74 : BitVec 32 := 128#32
  let v141 : BitVec 32 := Scalar.muli v13 c128_i32_74
  let c0_i32_75 : BitVec 32 := 0#32
  let v142 : BitVec 32 := Scalar.addi v141 c0_i32_75
  let c0_i32_84 : BitVec 32 := 0#32
  ![v142.toNat, 0]
def k0_dev6 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c1_i32_4 : BitVec 32 := 1#32
  let v14 : BitVec 32 := Scalar.addi v13 c1_i32_4
  let c4_i32_5 : BitVec 32 := 4#32
  let v15 : BitVec 32 := Scalar.remsi v14 c4_i32_5
  let c0_i32 : BitVec 32 := 0#32
  let v19 : BitVec 1 := Scalar.cmpi .sgt v15 c0_i32
  let v20 : BitVec 32 := Scalar.extui v19
  let c0_i32_9 : BitVec 32 := 0#32
  let v21 : BitVec 1 := Scalar.cmpi .slt v15 c0_i32_9
  let v22 : BitVec 32 := Scalar.extui v21
  let v23 : BitVec 32 := Scalar.subi v20 v22
  let c2_i32_8 : BitVec 32 := 2#32
  let c0_i32_10 : BitVec 32 := 0#32
  let v24 : BitVec 1 := Scalar.cmpi .sgt c2_i32_8 c0_i32_10
  let v25 : BitVec 32 := Scalar.extui v24
  let c0_i32_11 : BitVec 32 := 0#32
  let v26 : BitVec 1 := Scalar.cmpi .slt c2_i32_8 c0_i32_11
  let v27 : BitVec 32 := Scalar.extui v26
  let v28 : BitVec 32 := Scalar.subi v25 v27
  let v29 : BitVec 1 := Scalar.cmpi .ne v23 v28
  let v30 : BitVec 32 := Scalar.remsi v15 c2_i32_8
  let c0_i32_12 : BitVec 32 := 0#32
  let v31 : BitVec 1 := Scalar.cmpi .ne v30 c0_i32_12
  let v32 : BitVec 1 := Scalar.andi v29 v31
  let v18 : BitVec 32 := Scalar.divsi v15 c2_i32_8
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v15 c4_i32_14
  let c2_i32_15 : BitVec 32 := 2#32
  let c0_i32_16 : BitVec 32 := 0#32
  let v36 : BitVec 1 := Scalar.cmpi .eq c2_i32_15 c0_i32_16
  let c1_i32_17 : BitVec 32 := 1#32
  let v37 : BitVec 32 := Scalar.select v36 c1_i32_17 c2_i32_15
  let v38 : BitVec 32 := Scalar.remsi v35 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let v46 : BitVec 32 := Scalar.addi v34 v45
  let c2_i32_21 : BitVec 32 := 2#32
  let v47 : BitVec 32 := Scalar.muli c2_i32_21 v34
  let v48 : BitVec 32 := Scalar.muli v47 v45
  let v49 : BitVec 32 := Scalar.subi v46 v48
  let c4_i32_78 : BitVec 32 := 4#32
  let v143 : BitVec 32 := Scalar.muli v49 c4_i32_78
  let v144 : BitVec 32 := Scalar.addi c0_i32_79 v143
  let c2_i32_80 : BitVec 32 := 2#32
  let v145 : BitVec 32 := Scalar.muli v34 c2_i32_80
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v147 : BitVec 32 := Scalar.muli v8 c1_i32_81
  let v148 : BitVec 32 := Scalar.addi v146 v147
  v148.toNat
def k0_off16 (i : grid0.Coords) : Fin 2 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c2_i32_92 : BitVec 32 := 2#32
  ![v86.toNat, 2]
def k0_dev7 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c3_i32_6 : BitVec 32 := 3#32
  let v16 : BitVec 32 := Scalar.addi v13 c3_i32_6
  let c4_i32_7 : BitVec 32 := 4#32
  let v17 : BitVec 32 := Scalar.remsi v16 c4_i32_7
  let c0_i32_23 : BitVec 32 := 0#32
  let v51 : BitVec 1 := Scalar.cmpi .sgt v17 c0_i32_23
  let v52 : BitVec 32 := Scalar.extui v51
  let c0_i32_24 : BitVec 32 := 0#32
  let v53 : BitVec 1 := Scalar.cmpi .slt v17 c0_i32_24
  let v54 : BitVec 32 := Scalar.extui v53
  let v55 : BitVec 32 := Scalar.subi v52 v54
  let c2_i32_22 : BitVec 32 := 2#32
  let c0_i32_25 : BitVec 32 := 0#32
  let v56 : BitVec 1 := Scalar.cmpi .sgt c2_i32_22 c0_i32_25
  let v57 : BitVec 32 := Scalar.extui v56
  let c0_i32_26 : BitVec 32 := 0#32
  let v58 : BitVec 1 := Scalar.cmpi .slt c2_i32_22 c0_i32_26
  let v59 : BitVec 32 := Scalar.extui v58
  let v60 : BitVec 32 := Scalar.subi v57 v59
  let v61 : BitVec 1 := Scalar.cmpi .ne v55 v60
  let v62 : BitVec 32 := Scalar.remsi v17 c2_i32_22
  let c0_i32_27 : BitVec 32 := 0#32
  let v63 : BitVec 1 := Scalar.cmpi .ne v62 c0_i32_27
  let v64 : BitVec 1 := Scalar.andi v61 v63
  let v50 : BitVec 32 := Scalar.divsi v17 c2_i32_22
  let c1_i32_28 : BitVec 32 := 1#32
  let v65 : BitVec 32 := Scalar.subi v50 c1_i32_28
  let v66 : BitVec 32 := Scalar.select v64 v65 v50
  let c4_i32_29 : BitVec 32 := 4#32
  let v67 : BitVec 32 := Scalar.remsi v17 c4_i32_29
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v67 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.addi v66 v77
  let c2_i32_36 : BitVec 32 := 2#32
  let v79 : BitVec 32 := Scalar.muli c2_i32_36 v66
  let v80 : BitVec 32 := Scalar.muli v79 v77
  let v81 : BitVec 32 := Scalar.subi v78 v80
  let c4_i32_94 : BitVec 32 := 4#32
  let v163 : BitVec 32 := Scalar.muli v81 c4_i32_94
  let v164 : BitVec 32 := Scalar.addi c0_i32_95 v163
  let c2_i32_96 : BitVec 32 := 2#32
  let v165 : BitVec 32 := Scalar.muli v66 c2_i32_96
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_97 : BitVec 32 := 1#32
  let v167 : BitVec 32 := Scalar.muli v8 c1_i32_97
  let v168 : BitVec 32 := Scalar.addi v166 v167
  v168.toNat
def k0_cond6 (i : grid0.Coords) : BitVec 1 :=
  let arg0 : BitVec 32 := BitVec.ofNat 32 (i 0).val
  let c2_i32_60 : BitVec 32 := 2#32
  let v116 : BitVec 1 := Scalar.cmpi .sge arg0 c2_i32_60
  let c17_i32_61 : BitVec 32 := 17#32
  let v117 : BitVec 1 := Scalar.cmpi .sle arg0 c17_i32_61
  let v118 : BitVec 1 := Scalar.andi v116 v117
  let v119 : BitVec 32 := Scalar.extui v118
  let c0_i32_62 : BitVec 32 := 0#32
  let v120 : BitVec 1 := Scalar.cmpi .ne v119 c0_i32_62
  v120

def k0_off17 (i : grid0.Coords) : Fin 2 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c3_i32_75 : BitVec 32 := 3#32
  ![v89.toNat, 3]
def k0_off18 (i : grid0.Coords) : Fin 3 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c0_i32_81 : BitVec 32 := 0#32
  let c0_i32_82 : BitVec 32 := 0#32
  ![v89.toNat, 0, 0]
def k0_off19 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c3_i32_6 : BitVec 32 := 3#32
  let v16 : BitVec 32 := Scalar.addi v13 c3_i32_6
  let c4_i32_7 : BitVec 32 := 4#32
  let v17 : BitVec 32 := Scalar.remsi v16 c4_i32_7
  let c128_i32_73 : BitVec 32 := 128#32
  let v141 : BitVec 32 := Scalar.muli v17 c128_i32_73
  let c40_i32_74 : BitVec 32 := 40#32
  let v142 : BitVec 32 := Scalar.addi v141 c40_i32_74
  let c0_i32_83 : BitVec 32 := 0#32
  ![v142.toNat, 0]
def k0_dev8 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c1_i32_4 : BitVec 32 := 1#32
  let v14 : BitVec 32 := Scalar.addi v13 c1_i32_4
  let c4_i32_5 : BitVec 32 := 4#32
  let v15 : BitVec 32 := Scalar.remsi v14 c4_i32_5
  let c0_i32 : BitVec 32 := 0#32
  let v19 : BitVec 1 := Scalar.cmpi .sgt v15 c0_i32
  let v20 : BitVec 32 := Scalar.extui v19
  let c0_i32_9 : BitVec 32 := 0#32
  let v21 : BitVec 1 := Scalar.cmpi .slt v15 c0_i32_9
  let v22 : BitVec 32 := Scalar.extui v21
  let v23 : BitVec 32 := Scalar.subi v20 v22
  let c2_i32_8 : BitVec 32 := 2#32
  let c0_i32_10 : BitVec 32 := 0#32
  let v24 : BitVec 1 := Scalar.cmpi .sgt c2_i32_8 c0_i32_10
  let v25 : BitVec 32 := Scalar.extui v24
  let c0_i32_11 : BitVec 32 := 0#32
  let v26 : BitVec 1 := Scalar.cmpi .slt c2_i32_8 c0_i32_11
  let v27 : BitVec 32 := Scalar.extui v26
  let v28 : BitVec 32 := Scalar.subi v25 v27
  let v29 : BitVec 1 := Scalar.cmpi .ne v23 v28
  let v30 : BitVec 32 := Scalar.remsi v15 c2_i32_8
  let c0_i32_12 : BitVec 32 := 0#32
  let v31 : BitVec 1 := Scalar.cmpi .ne v30 c0_i32_12
  let v32 : BitVec 1 := Scalar.andi v29 v31
  let v18 : BitVec 32 := Scalar.divsi v15 c2_i32_8
  let c1_i32_13 : BitVec 32 := 1#32
  let v33 : BitVec 32 := Scalar.subi v18 c1_i32_13
  let v34 : BitVec 32 := Scalar.select v32 v33 v18
  let c4_i32_14 : BitVec 32 := 4#32
  let v35 : BitVec 32 := Scalar.remsi v15 c4_i32_14
  let c2_i32_15 : BitVec 32 := 2#32
  let c0_i32_16 : BitVec 32 := 0#32
  let v36 : BitVec 1 := Scalar.cmpi .eq c2_i32_15 c0_i32_16
  let c1_i32_17 : BitVec 32 := 1#32
  let v37 : BitVec 32 := Scalar.select v36 c1_i32_17 c2_i32_15
  let v38 : BitVec 32 := Scalar.remsi v35 v37
  let c0_i32_19 : BitVec 32 := 0#32
  let v40 : BitVec 1 := Scalar.cmpi .slt v38 c0_i32_19
  let c0_i32_20 : BitVec 32 := 0#32
  let v41 : BitVec 1 := Scalar.cmpi .slt v37 c0_i32_20
  let v42 : BitVec 1 := Scalar.xori v40 v41
  let c0_i32_18 : BitVec 32 := 0#32
  let v39 : BitVec 1 := Scalar.cmpi .ne v38 c0_i32_18
  let v43 : BitVec 1 := Scalar.andi v42 v39
  let v44 : BitVec 32 := Scalar.addi v38 v37
  let v45 : BitVec 32 := Scalar.select v43 v44 v38
  let v46 : BitVec 32 := Scalar.addi v34 v45
  let c2_i32_21 : BitVec 32 := 2#32
  let v47 : BitVec 32 := Scalar.muli c2_i32_21 v34
  let v48 : BitVec 32 := Scalar.muli v47 v45
  let v49 : BitVec 32 := Scalar.subi v46 v48
  let c4_i32_77 : BitVec 32 := 4#32
  let v143 : BitVec 32 := Scalar.muli v49 c4_i32_77
  let v144 : BitVec 32 := Scalar.addi c0_i32_78 v143
  let c2_i32_79 : BitVec 32 := 2#32
  let v145 : BitVec 32 := Scalar.muli v34 c2_i32_79
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_80 : BitVec 32 := 1#32
  let v147 : BitVec 32 := Scalar.muli v8 c1_i32_80
  let v148 : BitVec 32 := Scalar.addi v146 v147
  v148.toNat
def k0_off20 (i : grid0.Coords) : Fin 2 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c4_i32_90 : BitVec 32 := 4#32
  ![v89.toNat, 4]
def k0_off21 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c1_i32_4 : BitVec 32 := 1#32
  let v14 : BitVec 32 := Scalar.addi v13 c1_i32_4
  let c4_i32_5 : BitVec 32 := 4#32
  let v15 : BitVec 32 := Scalar.remsi v14 c4_i32_5
  let c128_i32_88 : BitVec 32 := 128#32
  let v161 : BitVec 32 := Scalar.muli v15 c128_i32_88
  let c88_i32_89 : BitVec 32 := 88#32
  let v162 : BitVec 32 := Scalar.addi v161 c88_i32_89
  let c0_i32_98 : BitVec 32 := 0#32
  ![v162.toNat, 0]
def k0_dev9 (d0 : Dev nD) : Nat :=
  let c0_i32_93 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c3_i32_6 : BitVec 32 := 3#32
  let v16 : BitVec 32 := Scalar.addi v13 c3_i32_6
  let c4_i32_7 : BitVec 32 := 4#32
  let v17 : BitVec 32 := Scalar.remsi v16 c4_i32_7
  let c0_i32_23 : BitVec 32 := 0#32
  let v51 : BitVec 1 := Scalar.cmpi .sgt v17 c0_i32_23
  let v52 : BitVec 32 := Scalar.extui v51
  let c0_i32_24 : BitVec 32 := 0#32
  let v53 : BitVec 1 := Scalar.cmpi .slt v17 c0_i32_24
  let v54 : BitVec 32 := Scalar.extui v53
  let v55 : BitVec 32 := Scalar.subi v52 v54
  let c2_i32_22 : BitVec 32 := 2#32
  let c0_i32_25 : BitVec 32 := 0#32
  let v56 : BitVec 1 := Scalar.cmpi .sgt c2_i32_22 c0_i32_25
  let v57 : BitVec 32 := Scalar.extui v56
  let c0_i32_26 : BitVec 32 := 0#32
  let v58 : BitVec 1 := Scalar.cmpi .slt c2_i32_22 c0_i32_26
  let v59 : BitVec 32 := Scalar.extui v58
  let v60 : BitVec 32 := Scalar.subi v57 v59
  let v61 : BitVec 1 := Scalar.cmpi .ne v55 v60
  let v62 : BitVec 32 := Scalar.remsi v17 c2_i32_22
  let c0_i32_27 : BitVec 32 := 0#32
  let v63 : BitVec 1 := Scalar.cmpi .ne v62 c0_i32_27
  let v64 : BitVec 1 := Scalar.andi v61 v63
  let v50 : BitVec 32 := Scalar.divsi v17 c2_i32_22
  let c1_i32_28 : BitVec 32 := 1#32
  let v65 : BitVec 32 := Scalar.subi v50 c1_i32_28
  let v66 : BitVec 32 := Scalar.select v64 v65 v50
  let c4_i32_29 : BitVec 32 := 4#32
  let v67 : BitVec 32 := Scalar.remsi v17 c4_i32_29
  let c2_i32_30 : BitVec 32 := 2#32
  let c0_i32_31 : BitVec 32 := 0#32
  let v68 : BitVec 1 := Scalar.cmpi .eq c2_i32_30 c0_i32_31
  let c1_i32_32 : BitVec 32 := 1#32
  let v69 : BitVec 32 := Scalar.select v68 c1_i32_32 c2_i32_30
  let v70 : BitVec 32 := Scalar.remsi v67 v69
  let c0_i32_34 : BitVec 32 := 0#32
  let v72 : BitVec 1 := Scalar.cmpi .slt v70 c0_i32_34
  let c0_i32_35 : BitVec 32 := 0#32
  let v73 : BitVec 1 := Scalar.cmpi .slt v69 c0_i32_35
  let v74 : BitVec 1 := Scalar.xori v72 v73
  let c0_i32_33 : BitVec 32 := 0#32
  let v71 : BitVec 1 := Scalar.cmpi .ne v70 c0_i32_33
  let v75 : BitVec 1 := Scalar.andi v74 v71
  let v76 : BitVec 32 := Scalar.addi v70 v69
  let v77 : BitVec 32 := Scalar.select v75 v76 v70
  let v78 : BitVec 32 := Scalar.addi v66 v77
  let c2_i32_36 : BitVec 32 := 2#32
  let v79 : BitVec 32 := Scalar.muli c2_i32_36 v66
  let v80 : BitVec 32 := Scalar.muli v79 v77
  let v81 : BitVec 32 := Scalar.subi v78 v80
  let c4_i32_92 : BitVec 32 := 4#32
  let v163 : BitVec 32 := Scalar.muli v81 c4_i32_92
  let v164 : BitVec 32 := Scalar.addi c0_i32_93 v163
  let c2_i32_94 : BitVec 32 := 2#32
  let v165 : BitVec 32 := Scalar.muli v66 c2_i32_94
  let v166 : BitVec 32 := Scalar.addi v164 v165
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v167 : BitVec 32 := Scalar.muli v8 c1_i32_95
  let v168 : BitVec 32 := Scalar.addi v166 v167
  v168.toNat
def k0_cond7 (i : grid0.Coords) : BitVec 1 :=
  let arg0 : BitVec 32 := BitVec.ofNat 32 (i 0).val
  let c3_i32_63 : BitVec 32 := 3#32
  let v121 : BitVec 1 := Scalar.cmpi .sge arg0 c3_i32_63
  let c18_i32 : BitVec 32 := 18#32
  let v122 : BitVec 1 := Scalar.cmpi .sle arg0 c18_i32
  let v123 : BitVec 1 := Scalar.andi v121 v122
  let v124 : BitVec 32 := Scalar.extui v123
  let c0_i32_64 : BitVec 32 := 0#32
  let v125 : BitVec 1 := Scalar.cmpi .ne v124 c0_i32_64
  v125

def k0_off22 (i : grid0.Coords) : Fin 2 → Nat :=
  let arg0 : BitVec 32 := BitVec.ofNat 32 (i 0).val
  let c5_i32_44 : BitVec 32 := 5#32
  let v90 : BitVec 32 := Scalar.addi arg0 c5_i32_44
  let c3_i32_45 : BitVec 32 := 3#32
  let v91 : BitVec 32 := Scalar.subi v90 c3_i32_45
  let c5_i32_46 : BitVec 32 := 5#32
  let v92 : BitVec 32 := Scalar.remsi v91 c5_i32_46
  let c5_i32_76 : BitVec 32 := 5#32
  ![v92.toNat, 5]
def k0_off23 (i : grid0.Coords) : Fin 3 → Nat :=
  let arg0 : BitVec 32 := BitVec.ofNat 32 (i 0).val
  let c5_i32_44 : BitVec 32 := 5#32
  let v90 : BitVec 32 := Scalar.addi arg0 c5_i32_44
  let c3_i32_45 : BitVec 32 := 3#32
  let v91 : BitVec 32 := Scalar.subi v90 c3_i32_45
  let c5_i32_46 : BitVec 32 := 5#32
  let v92 : BitVec 32 := Scalar.remsi v91 c5_i32_46
  let c0_i32_82 : BitVec 32 := 0#32
  let c0_i32_83 : BitVec 32 := 0#32
  ![v92.toNat, 0, 0]
def k0_off24 (d0 : Dev nD) (c0_i32_75 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c2_i32_53 : BitVec 32 := 2#32
  let v106 : BitVec 32 := Scalar.addi v13 c2_i32_53
  let c4_i32_54 : BitVec 32 := 4#32
  let v107 : BitVec 32 := Scalar.remsi v106 c4_i32_54
  let c128_i32_74 : BitVec 32 := 128#32
  let v141 : BitVec 32 := Scalar.muli v107 c128_i32_74
  let v142 : BitVec 32 := Scalar.addi v141 c0_i32_75
  let c0_i32_84 : BitVec 32 := 0#32
  ![v142.toNat, 0]
def k0_off25 (i : grid0.Coords) : Fin 2 → Nat :=
  let arg0 : BitVec 32 := BitVec.ofNat 32 (i 0).val
  let c5_i32_44 : BitVec 32 := 5#32
  let v90 : BitVec 32 := Scalar.addi arg0 c5_i32_44
  let c3_i32_45 : BitVec 32 := 3#32
  let v91 : BitVec 32 := Scalar.subi v90 c3_i32_45
  let c5_i32_46 : BitVec 32 := 5#32
  let v92 : BitVec 32 := Scalar.remsi v91 c5_i32_46
  let c3_i32_91 : BitVec 32 := 3#32
  ![v92.toNat, 3]
def k0_off26 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c2_i32_53 : BitVec 32 := 2#32
  let v106 : BitVec 32 := Scalar.addi v13 c2_i32_53
  let c4_i32_54 : BitVec 32 := 4#32
  let v107 : BitVec 32 := Scalar.remsi v106 c4_i32_54
  let c128_i32_89 : BitVec 32 := 128#32
  let v159 : BitVec 32 := Scalar.muli v107 c128_i32_89
  let c40_i32_90 : BitVec 32 := 40#32
  let v160 : BitVec 32 := Scalar.addi v159 c40_i32_90
  let c0_i32_99 : BitVec 32 := 0#32
  ![v160.toNat, 0]
def k0_off27 (i : grid0.Coords) : Fin 2 → Nat :=
  let arg0 : BitVec 32 := BitVec.ofNat 32 (i 0).val
  let c5_i32_44 : BitVec 32 := 5#32
  let v90 : BitVec 32 := Scalar.addi arg0 c5_i32_44
  let c3_i32_45 : BitVec 32 := 3#32
  let v91 : BitVec 32 := Scalar.subi v90 c3_i32_45
  let c5_i32_46 : BitVec 32 := 5#32
  let v92 : BitVec 32 := Scalar.remsi v91 c5_i32_46
  let c4_i32_106 : BitVec 32 := 4#32
  ![v92.toNat, 4]
def k0_off28 (i : grid0.Coords) : Fin 3 → Nat :=
  let arg0 : BitVec 32 := BitVec.ofNat 32 (i 0).val
  let c5_i32_44 : BitVec 32 := 5#32
  let v90 : BitVec 32 := Scalar.addi arg0 c5_i32_44
  let c3_i32_45 : BitVec 32 := 3#32
  let v91 : BitVec 32 := Scalar.subi v90 c3_i32_45
  let c5_i32_46 : BitVec 32 := 5#32
  let v92 : BitVec 32 := Scalar.remsi v91 c5_i32_46
  let v198 : Index := Scalar.indexCast v92
  let c0_121 : Index := 0#32
  let c0_122 : Index := 0#32
  ![v198.toNat, 0, 0]
def k0_cond8 (i : grid0.Coords) : BitVec 1 :=
  let arg0 : BitVec 32 := BitVec.ofNat 32 (i 0).val
  let c16_i32_65 : BitVec 32 := 16#32
  let v126 : BitVec 1 := Scalar.cmpi .slt arg0 c16_i32_65
  let v127 : BitVec 32 := Scalar.extui v126
  let c0_i32_66 : BitVec 32 := 0#32
  let v128 : BitVec 1 := Scalar.cmpi .ne v127 c0_i32_66
  v128

def k0_off29 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c128_i32 : BitVec 32 := 128#32
  let v139 : BitVec 32 := Scalar.muli v13 c128_i32
  let c0_i32_73 : BitVec 32 := 0#32
  let v140 : BitVec 32 := Scalar.addi v139 c0_i32_73
  let c0_i32_79 : BitVec 32 := 0#32
  ![v140.toNat, 0]
def k0_off30 (i : grid0.Coords) : Fin 3 → Nat :=
  let arg0 : BitVec 32 := BitVec.ofNat 32 (i 0).val
  let c5_i32 : BitVec 32 := 5#32
  let v83 : BitVec 32 := Scalar.remsi arg0 c5_i32
  let c0_i32_80 : BitVec 32 := 0#32
  let c0_i32_81 : BitVec 32 := 0#32
  ![v83.toNat, 0, 0]
def k0_off31 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c2_i32_53 : BitVec 32 := 2#32
  let v106 : BitVec 32 := Scalar.addi v13 c2_i32_53
  let c4_i32_54 : BitVec 32 := 4#32
  let v107 : BitVec 32 := Scalar.remsi v106 c4_i32_54
  let c128_i32_83 : BitVec 32 := 128#32
  let v149 : BitVec 32 := Scalar.muli v107 c128_i32_83
  let c0_i32_84 : BitVec 32 := 0#32
  let v150 : BitVec 32 := Scalar.addi v149 c0_i32_84
  let c0_i32_90 : BitVec 32 := 0#32
  ![v150.toNat, 0]
def k0_cond9 (i : grid0.Coords) : BitVec 1 :=
  let arg0 : BitVec 32 := BitVec.ofNat 32 (i 0).val
  let c1_i32_67 : BitVec 32 := 1#32
  let v129 : BitVec 1 := Scalar.cmpi .sge arg0 c1_i32_67
  let c16_i32_68 : BitVec 32 := 16#32
  let v130 : BitVec 1 := Scalar.cmpi .sle arg0 c16_i32_68
  let v131 : BitVec 1 := Scalar.andi v129 v130
  let v132 : BitVec 32 := Scalar.extui v131
  let c0_i32_69 : BitVec 32 := 0#32
  let v133 : BitVec 1 := Scalar.cmpi .ne v132 c0_i32_69
  v133

def k0_off32 (i : grid0.Coords) : Fin 3 → Nat :=
  let arg0 : BitVec 32 := BitVec.ofNat 32 (i 0).val
  let c5_i32_38 : BitVec 32 := 5#32
  let v84 : BitVec 32 := Scalar.addi arg0 c5_i32_38
  let c1_i32_39 : BitVec 32 := 1#32
  let v85 : BitVec 32 := Scalar.subi v84 c1_i32_39
  let c5_i32_40 : BitVec 32 := 5#32
  let v86 : BitVec 32 := Scalar.remsi v85 c5_i32_40
  let c0_i32_79 : BitVec 32 := 0#32
  let c0_i32_80 : BitVec 32 := 0#32
  ![v86.toNat, 0, 0]
def k0_off33 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c128_i32 : BitVec 32 := 128#32
  let v139 : BitVec 32 := Scalar.muli v13 c128_i32
  let c0_i32_73 : BitVec 32 := 0#32
  let v140 : BitVec 32 := Scalar.addi v139 c0_i32_73
  let c0_i32_81 : BitVec 32 := 0#32
  ![v140.toNat, 0]
def k0_cond10 (i : grid0.Coords) : BitVec 1 :=
  let arg0 : BitVec 32 := BitVec.ofNat 32 (i 0).val
  let c2_i32_70 : BitVec 32 := 2#32
  let v134 : BitVec 1 := Scalar.cmpi .sge arg0 c2_i32_70
  let c17_i32_71 : BitVec 32 := 17#32
  let v135 : BitVec 1 := Scalar.cmpi .sle arg0 c17_i32_71
  let v136 : BitVec 1 := Scalar.andi v134 v135
  let v137 : BitVec 32 := Scalar.extui v136
  let c0_i32_72 : BitVec 32 := 0#32
  let v138 : BitVec 1 := Scalar.cmpi .ne v137 c0_i32_72
  v138

def k0_off34 (i : grid0.Coords) : Fin 3 → Nat :=
  let arg0 : BitVec 32 := BitVec.ofNat 32 (i 0).val
  let c5_i32_41 : BitVec 32 := 5#32
  let v87 : BitVec 32 := Scalar.addi arg0 c5_i32_41
  let c2_i32_42 : BitVec 32 := 2#32
  let v88 : BitVec 32 := Scalar.subi v87 c2_i32_42
  let c5_i32_43 : BitVec 32 := 5#32
  let v89 : BitVec 32 := Scalar.remsi v88 c5_i32_43
  let c0_i32_78 : BitVec 32 := 0#32
  let c0_i32_79 : BitVec 32 := 0#32
  ![v89.toNat, 0, 0]
def k0_off35 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c3_i32_6 : BitVec 32 := 3#32
  let v16 : BitVec 32 := Scalar.addi v13 c3_i32_6
  let c4_i32_7 : BitVec 32 := 4#32
  let v17 : BitVec 32 := Scalar.remsi v16 c4_i32_7
  let c128_i32 : BitVec 32 := 128#32
  let v139 : BitVec 32 := Scalar.muli v17 c128_i32
  let c40_i32 : BitVec 32 := 40#32
  let v140 : BitVec 32 := Scalar.addi v139 c40_i32
  let c0_i32_80 : BitVec 32 := 0#32
  ![v140.toNat, 0]
def k0_off36 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c3_i32 : BitVec 32 := 3#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c3_i32 v5
  let v10 : BitVec 32 := Scalar.addi v2 v9
  let c2_i32_3 : BitVec 32 := 2#32
  let v11 : BitVec 32 := Scalar.muli c2_i32_3 v2
  let v12 : BitVec 32 := Scalar.muli v11 v5
  let v13 : BitVec 32 := Scalar.subi v10 v12
  let c1_i32_4 : BitVec 32 := 1#32
  let v14 : BitVec 32 := Scalar.addi v13 c1_i32_4
  let c4_i32_5 : BitVec 32 := 4#32
  let v15 : BitVec 32 := Scalar.remsi v14 c4_i32_5
  let c128_i32_84 : BitVec 32 := 128#32
  let v151 : BitVec 32 := Scalar.muli v15 c128_i32_84
  let c88_i32 : BitVec 32 := 88#32
  let v152 : BitVec 32 := Scalar.addi v151 c88_i32
  let c0_i32_92 : BitVec 32 := 0#32
  ![v152.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdeal.Mesh.lean ====
/-
  The mesh of eight devices as the kernel walks it: who sends what to whom, which rows of which ring slot, at which step.

  Device index is 4x + 2y + z. The four (x, y) positions of one z form a ring, entered by `right` and `left`; `zp` is the
  device with the other z. The 512 rows of a block are cut in four quarters, quarter p belonging to ring position p.
  A block's sum of the two z partials needs, besides the device's own partial, the OTHER z's partial of all 512 rows; a device
  gathers it in one slot of its scratch from six landings, its KINDS:

    0  its own quarter, from `zp`                     3  rows 40..87 of the opposite quarter, from `left`
    1  the left neighbour's quarter, from `left`      4  rows 88..127 of the opposite quarter, from `right`
    2  the right neighbour's quarter, from `right`    5  rows 0..39 of the opposite quarter, from `zp`

  Blocks are numbered from 5: block `B` stands for the kernel's block `B - 5`, so that ring slot `B % 5` never asks for the
  residue of a negative number. `InR B` says that `B` is one of the sixteen blocks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionsLoop
public import Idealize.ShloMosaic.Lib.Pipeline.Kit
public import Idealize.ShloMosaic.Lib.ValueIdxCore
public import Idealize.ShloMosaic.Lib.Tactic

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.Sem

/-! ## Devices -/

/-- The next device of the ring, the one before, the one with the other z, the one opposite. -/
def right (d : Dev nD) : Dev nD := ![4, 5, 0, 1, 6, 7, 2, 3] d
def left (d : Dev nD) : Dev nD := ![2, 3, 6, 7, 0, 1, 4, 5] d
def zp (d : Dev nD) : Dev nD := ![1, 0, 3, 2, 5, 4, 7, 6] d
def opp (d : Dev nD) : Dev nD := ![6, 7, 4, 5, 2, 3, 0, 1] d
/-- A device's ring position. -/
def pos (d : Dev nD) : ℕ := ![0, 0, 3, 3, 1, 1, 2, 2] d

/-! ## Kinds -/

/-- How many rows a landing of kind `k` covers, and the first of them on device `d`. -/
def len (k : Fin 6) : ℕ := ![128, 128, 128, 48, 40, 40] k
def lo (k : Fin 6) (d : Dev nD) : ℕ :=
  ![pos d * 128, (pos d + 3) % 4 * 128, (pos d + 1) % 4 * 128, (pos d + 2) % 4 * 128 + 40, (pos d + 2) % 4 * 128 + 88,
    (pos d + 2) % 4 * 128] k
/-- Who sends device `d` its landing of kind `k`, and to whom `d` sends one. -/
def src (k : Fin 6) (d : Dev nD) : Dev nD := ![zp d, left d, right d, left d, right d, zp d] k
def tgt (k : Fin 6) (d : Dev nD) : Dev nD := ![zp d, right d, left d, right d, left d, zp d] k
/-- Whose partial a landing of kind `k` on `d` holds. -/
def own (k : Fin 6) (d : Dev nD) : Dev nD := ![zp d, zp (left d), zp (right d), zp (opp d), zp (opp d), zp d] k

/-- A device is the source of what its target receives. -/
theorem src_tgt (k : Fin 6) (d : Dev nD) : src k (tgt k d) = d := by revert k d; decide
/-- A device is the target of its source. -/
theorem tgt_src (k : Fin 6) (d : Dev nD) : tgt k (src k d) = d := by revert k d; decide
/-- A send of kind `k` as a permutation of the devices. -/
def tgtEquiv (k : Fin 6) : Dev nD ≃ Dev nD := ⟨tgt k, src k, src_tgt k, tgt_src k⟩

theorem len_pos (k : Fin 6) : 0 < len k := by revert k; decide
/-- The rows of a landing lie in its block. -/
theorem lo_len (k : Fin 6) (d : Dev nD) : lo k d + len k ≤ 512 := by revert k d; decide

/-- The six landings tile the rows: every row lies in exactly one. -/
def kindOf (d : Dev nD) (r : ℕ) : Fin 6 :=
  if r / 128 = pos d then 0 else if r / 128 = (pos d + 3) % 4 then 1 else if r / 128 = (pos d + 1) % 4 then 2
  else if r % 128 < 40 then 5 else if r % 128 < 88 then 3 else 4

theorem pos_lt (d : Dev nD) : pos d < 4 := by revert d; decide

/-- Row `r` is covered by exactly the landing of kind `kindOf d r`. -/
theorem kindOf_iff (d : Dev nD) (r : ℕ) (hr : r < 512) (k : Fin 6) :
    kindOf d r = k ↔ lo k d ≤ r ∧ r < lo k d + len k := by
  have hp := pos_lt d
  unfold kindOf lo len
  generalize pos d = p at hp
  have : r / 128 < 4 := by omega
  interval_cases p <;> fin_cases k <;> simp <;> split_ifs <;> simp <;> omega

/-! ## Steps -/

/-- `B` is one of the sixteen blocks. -/
abbrev InR (B : ℕ) : Prop := 5 ≤ B ∧ B < 21

/-- At step `t` a landing of kind `k` is sent for block `t + sOff k` and awaited for block `t + wOff k`. -/
def sOff (k : Fin 6) : ℕ := ![5, 4, 4, 3, 3, 5] k
def wOff (k : Fin 6) : ℕ := ![4, 3, 3, 2, 2, 2] k

theorem lt19 (t : Fin cfg0.N) : t.val < 19 := t.isLt

/-- The kernel's conditions in closed form: the handshake is at step 0, each other block at the steps whose block number is in
range. -/
theorem cond1_iff : ∀ t : Fin cfg0.N, k0_cond1 (grid0.coords t) = 1#1 ↔ t.val = 0 := by decide +kernel
theorem cond2_iff : ∀ t : Fin cfg0.N, k0_cond2 (grid0.coords t) = 1#1 ↔ InR (t.val + 4) := by decide +kernel
theorem cond3_iff : ∀ t : Fin cfg0.N, k0_cond3 (grid0.coords t) = 1#1 ↔ InR (t.val + 3) := by decide +kernel
theorem cond4_iff : ∀ t : Fin cfg0.N, k0_cond4 (grid0.coords t) = 1#1 ↔ InR (t.val + 5) := by decide +kernel
theorem cond5_iff : ∀ t : Fin cfg0.N, k0_cond5 (grid0.coords t) = 1#1 ↔ InR (t.val + 4) := by decide +kernel
theorem cond6_iff : ∀ t : Fin cfg0.N, k0_cond6 (grid0.coords t) = 1#1 ↔ InR (t.val + 3) := by decide +kernel
theorem cond7_iff : ∀ t : Fin cfg0.N, k0_cond7 (grid0.coords t) = 1#1 ↔ InR (t.val + 2) := by decide +kernel
theorem cond8_iff : ∀ t : Fin cfg0.N, k0_cond8 (grid0.coords t) = 1#1 ↔ InR (t.val + 5) := by decide +kernel
theorem cond9_iff : ∀ t : Fin cfg0.N, k0_cond9 (grid0.coords t) = 1#1 ↔ InR (t.val + 4) := by decide +kernel
theorem cond10_iff : ∀ t : Fin cfg0.N, k0_cond10 (grid0.coords t) = 1#1 ↔ InR (t.val + 3) := by decide +kernel

/-! ## The devices and offsets the kernel computes -/

/-- The devices the kernel computes: the handshake's three, then the sends' targets. -/
theorem dev1_eq : ∀ (d : Dev nD), k0_dev1 d = (zp d).val := by decide +kernel
theorem dev2_eq : ∀ (d : Dev nD), k0_dev2 d = (right d).val := by decide +kernel
theorem dev3_eq : ∀ (d : Dev nD), k0_dev3 d = (left d).val := by decide +kernel
theorem dev4_eq : ∀ (d : Dev nD), k0_dev4 d = (tgt 0 d).val := by decide +kernel
theorem dev5_eq : ∀ (d : Dev nD), k0_dev5 d = (tgt 5 d).val := by decide +kernel
theorem dev6_eq : ∀ (d : Dev nD), k0_dev6 d = (tgt 1 d).val := by decide +kernel
theorem dev7_eq : ∀ (d : Dev nD), k0_dev7 d = (tgt 2 d).val := by decide +kernel
theorem dev8_eq : ∀ (d : Dev nD), k0_dev8 d = (tgt 3 d).val := by decide +kernel
theorem dev9_eq : ∀ (d : Dev nD), k0_dev9 d = (tgt 4 d).val := by decide +kernel

/-- The offsets the kernel computes: slots and semaphores by the step, rows by the device. -/
theorem off1_eq : ∀ t : Fin cfg0.N, k0_off1 (grid0.coords t) = ![(t.val + 4) % 5, 0] := by decide +kernel
theorem off2_eq : ∀ t : Fin cfg0.N, k0_off2 (grid0.coords t) = ![(t.val + 4) % 5, 0, 0] := by decide +kernel
theorem off3_eq : ∀ d : Dev nD, k0_off3 d = ![lo 0 d, 0] := by decide +kernel
theorem off4_eq : ∀ t : Fin cfg0.N, k0_off4 (grid0.coords t) = ![(t.val + 3) % 5, 1] := by decide +kernel
theorem off5_eq : ∀ t : Fin cfg0.N, k0_off5 (grid0.coords t) = ![(t.val + 3) % 5, 0, 0] := by decide +kernel
theorem off6_left : ∀ d : Dev nD, k0_off6 d 3#32 = ![lo 1 d, 0] := by decide +kernel
theorem off6_right : ∀ d : Dev nD, k0_off6 d 1#32 = ![lo 2 d, 0] := by decide +kernel
theorem off7_eq : ∀ t : Fin cfg0.N, k0_off7 (grid0.coords t) = ![(t.val + 3) % 5, 2] := by decide +kernel
theorem off8_eq : ∀ t : Fin cfg0.N, k0_off8 (grid0.coords t) = ![(t.val + 5) % 5, 0] := by decide +kernel
theorem off9_eq : ∀ t : Fin cfg0.N, k0_off9 (grid0.coords t) = ![(t.val + 5) % 5, 0, 0] := by decide +kernel
theorem off10_eq : ∀ d : Dev nD, k0_off10 d = ![lo 0 (tgt 0 d), 0] := by decide +kernel
theorem off11_eq : ∀ t : Fin cfg0.N, k0_off11 (grid0.coords t) = ![(t.val + 5) % 5, 5] := by decide +kernel
theorem off12_eq : ∀ d : Dev nD, k0_off12 d = ![lo 5 (tgt 5 d), 0] := by decide +kernel
theorem off13_eq : ∀ t : Fin cfg0.N, k0_off13 (grid0.coords t) = ![(t.val + 4) % 5, 1] := by decide +kernel
theorem off14_eq : ∀ t : Fin cfg0.N, k0_off14 (grid0.coords t) = ![(t.val + 4) % 5, 0, 0] := by decide +kernel
theorem off15_eq : ∀ d : Dev nD, k0_off15 d = ![lo 1 (tgt 1 d), 0] := by decide +kernel
theorem off15_eq' : ∀ d : Dev nD, k0_off15 d = ![lo 2 (tgt 2 d), 0] := by decide +kernel
theorem off16_eq : ∀ t : Fin cfg0.N, k0_off16 (grid0.coords t) = ![(t.val + 4) % 5, 2] := by decide +kernel
theorem off17_eq : ∀ t : Fin cfg0.N, k0_off17 (grid0.coords t) = ![(t.val + 3) % 5, 3] := by decide +kernel
theorem off18_eq : ∀ t : Fin cfg0.N, k0_off18 (grid0.coords t) = ![(t.val + 3) % 5, 0, 0] := by decide +kernel
theorem off19_eq : ∀ d : Dev nD, k0_off19 d = ![lo 3 (tgt 3 d), 0] := by decide +kernel
theorem off20_eq : ∀ t : Fin cfg0.N, k0_off20 (grid0.coords t) = ![(t.val + 3) % 5, 4] := by decide +kernel
theorem off21_eq : ∀ d : Dev nD, k0_off21 d = ![lo 4 (tgt 4 d), 0] := by decide +kernel
theorem off22_eq : ∀ t : Fin cfg0.N, k0_off22 (grid0.coords t) = ![(t.val + 2) % 5, 5] := by decide +kernel
theorem off23_eq : ∀ t : Fin cfg0.N, k0_off23 (grid0.coords t) = ![(t.val + 2) % 5, 0, 0] := by decide +kernel
theorem off24_top : ∀ d : Dev nD, k0_off24 d 0#32 = ![lo 5 d, 0] := by decide +kernel
theorem off24_bottom : ∀ d : Dev nD, k0_off24 d 88#32 = ![lo 4 d, 0] := by decide +kernel
theorem off25_eq : ∀ t : Fin cfg0.N, k0_off25 (grid0.coords t) = ![(t.val + 2) % 5, 3] := by decide +kernel
theorem off26_eq : ∀ d : Dev nD, k0_off26 d = ![lo 3 d, 0] := by decide +kernel
theorem off27_eq : ∀ t : Fin cfg0.N, k0_off27 (grid0.coords t) = ![(t.val + 2) % 5, 4] := by decide +kernel
theorem off28_eq : ∀ t : Fin cfg0.N, k0_off28 (grid0.coords t) = ![(t.val + 2) % 5, 0, 0] := by decide +kernel
theorem off29_eq : ∀ d : Dev nD, k0_off29 d = ![lo 0 (tgt 0 d), 0] := by decide +kernel
theorem off31_eq : ∀ d : Dev nD, k0_off31 d = ![lo 5 (tgt 5 d), 0] := by decide +kernel
theorem off32_eq : ∀ t : Fin cfg0.N, k0_off32 (grid0.coords t) = ![(t.val + 4) % 5, 0, 0] := by decide +kernel
theorem off33_eq : ∀ d : Dev nD, k0_off33 d = ![lo 0 d, 0] := by decide +kernel
theorem off34_eq : ∀ t : Fin cfg0.N, k0_off34 (grid0.coords t) = ![(t.val + 3) % 5, 0, 0] := by decide +kernel
theorem off35_eq : ∀ d : Dev nD, k0_off35 d = ![lo 3 (tgt 3 d), 0] := by decide +kernel
theorem off36_eq : ∀ d : Dev nD, k0_off36 d = ![lo 4 (tgt 4 d), 0] := by decide +kernel

/-! ## Semaphores -/

/-- The barrier semaphore, the receive semaphore of slot `s` and kind `k`, the send semaphore of kind `k`. -/
abbrev barS : Sem sig := (SemArray.scalar (sig.barrier 0 rfl) : Sems sig S_).sem
/-- The receive semaphore of slot `s` and kind `k`. -/
def recvS (s : ℕ) (k : Fin 6) : DmaSem sig := ⟨15 + 6 * (s % 5) + k.val, by have := k.isLt; show _ < 45; omega⟩
/-- The send semaphore of kind `k`. -/
def sendS (k : Fin 6) : DmaSem sig := ⟨9 + k.val, by have := k.isLt; show _ < 45; omega⟩

/-- The receive semaphore as the kernel slices it from its array. -/
theorem recvS_aux : ∀ (s : Fin 5) (k : Fin 6) (h : ∀ a, ![s.val, k.val] a + S1x1.size a ≤ S5x6.size a),
    ((cc0_scratch2.slice (Rect.unit (s := S5x6) ![s.val, k.val] S1x1.size h)).squeeze S_ squeezes_S1x1_S_).sem
      = recvS s.val k := by decide +kernel

/-- The receive semaphore the kernel slices at slot `B % 5`, kind `k`. -/
theorem recvS_eq (o : Fin 2 → ℕ) (B : ℕ) (k : Fin 6) (ho : o = ![B % 5, k.val]) (h : ∀ a, o a + S1x1.size a ≤ S5x6.size a) :
    ((cc0_scratch2.slice (Rect.unit (s := S5x6) o S1x1.size h)).squeeze S_ squeezes_S1x1_S_).sem = recvS B k := by
  subst ho
  have := recvS_aux ⟨B % 5, Nat.mod_lt _ (by decide)⟩ k h
  rw [this]; unfold recvS; simp

/-- The send semaphore the kernel slices at kind `k`. -/
theorem sendS_eq (o : Fin 1 → ℕ) (k : Fin 6) (ho : o = ![k.val]) (h : ∀ a, o a + S1.size a ≤ S6.size a) :
    ((cc0_scratch1.slice (Rect.unit (s := S6) o S1.size h)).squeeze S_ squeezes_S1_S_).sem = sendS k := by
  subst ho
  revert h k; decide +kernel

/-- Receive semaphores of different slots or kinds differ. -/
theorem recvS_inj {s s' : ℕ} {k k' : Fin 6} (h : recvS s k = recvS s' k') : s % 5 = s' % 5 ∧ k = k' := by
  have := congrArg Fin.val h
  simp only [recvS] at this
  refine ⟨by omega, Fin.ext (by omega)⟩
theorem sendS_inj {k k' : Fin 6} (h : sendS k = sendS k') : k = k' := by
  have := congrArg Fin.val h
  simp only [sendS] at this
  exact Fin.ext (by omega)
theorem sendS_ne_recvS (k k' : Fin 6) (s : ℕ) : sendS k ≠ recvS s k' := fun h => by
  have := congrArg Fin.val h
  simp only [sendS, recvS] at this
  omega

/-! ## Rows of a ring slot -/

/-- The scratch of device `d`. -/
abbrev aloc (d : Dev nD) : Loc nD τ sig := (Memref.whole cc0_scratch0 : Memref sig .tc .vmem S5x512x2048 .f32).view.loc (d : Thread nD τ)

/-- Rows `lo .. lo + n - 1` of slot `B % 5`. -/
def rows (lo n B : ℕ) : Finset S5x512x2048.Idx :=
  Finset.univ.filter fun i => (i 0).val = B % 5 ∧ lo ≤ (i 1).val ∧ (i 1).val < lo + n

/-- Membership in rows `l` to `l + n` of the slot of block `B`. -/
theorem mem_rows {l n B : ℕ} {i : S5x512x2048.Idx} :
    i ∈ rows l n B ↔ (i 0).val = B % 5 ∧ l ≤ (i 1).val ∧ (i 1).val < l + n := by simp [rows]

/-- Where the landing of kind `k` goes on `d`, in the slot of block `B`. -/
abbrev rg (k : Fin 6) (d : Dev nD) (B : ℕ) : Finset S5x512x2048.Idx := rows (lo k d) (len k) B

/-- Blocks of the same slot have the same rows. -/
theorem rg_congr {k : Fin 6} {d : Dev nD} {B B' : ℕ} (h : B % 5 = B' % 5) : rg k d B = rg k d B' := by
  unfold rg rows; rw [h]

/-- The rows of a slot of the scratch as the kernel slices them. -/
abbrev slab (o : Fin 3 → ℕ) (o' : Fin 2 → ℕ) (sz : Fin 2 → ℕ) (h : ∀ a, o a + S1x512x2048.size a ≤ S5x512x2048.size a)
    (h' : ∀ a, o' a + sz a ≤ S512x2048.size a) : Memref sig .tc .vmem ⟨2, sz⟩ .f32 :=
  (((Memref.whole cc0_scratch0 : Memref sig .tc .vmem S5x512x2048 .f32).slice (Rect.unit (s := S5x512x2048) o S1x512x2048.size h)
    (fun _ => rfl)).squeeze S512x2048 squeezes_S1x512x2048_S512x2048).slice (Rect.unit (s := S512x2048) o' sz h') (fun _ => rfl)

theorem squeeze_idx (j : S512x2048.Idx) :
    (Shape.reshapeEquiv (squeezes_S1x512x2048_S512x2048).numel_eq j : S1x512x2048.Idx) = ix3 0 (j 0) (j 1) := by
  rw [Shape.reshapeEquiv_cons_one]
  funext a; match a with | ⟨0, _⟩ => rfl | ⟨1, _⟩ => rfl | ⟨2, _⟩ => rfl

theorem emb3 (o : Fin 3 → ℕ) (h : ∀ a, o a + S1x512x2048.size a ≤ S5x512x2048.size a) (x : S1x512x2048.Idx) (a : Fin 3) :
    ((Rect.unit (s := S5x512x2048) o S1x512x2048.size h).emb x a).val = o a + (x a).val := by
  show o a + 1 * (x a).val = _; omega

theorem emb2 (o sz : Fin 2 → ℕ) (h : ∀ a, o a + sz a ≤ S512x2048.size a) (x : (⟨2, sz⟩ : Shape).Idx) (a : Fin 2) :
    ((Rect.unit (s := S512x2048) o sz h).emb x a).val = o a + (x a).val := by
  show o a + 1 * (x a).val = _; omega

/-- Where an element of a slab of the scratch is in the scratch. -/
theorem slab_emb_val (o : Fin 3 → ℕ) (o' sz : Fin 2 → ℕ) (h h') (j : (⟨2, sz⟩ : Shape).Idx) (i : S5x512x2048.Idx)
    (hi : (slab o o' sz h h').view.emb j = i) :
    (i 0).val = o 0 ∧ (i 1).val = o 1 + (o' 0 + (j 0).val) ∧ (i 2).val = o 2 + (o' 1 + (j 1).val) := by
  subst hi
  have e : ∀ a : Fin 3, ((slab o o' sz h h').view.emb j a).val
      = o a + ((Shape.reshapeEquiv (squeezes_S1x512x2048_S512x2048).numel_eq
        ((Rect.unit (s := S512x2048) o' sz h').emb j) : S1x512x2048.Idx) a).val := fun a => emb3 o h _ a
  refine ⟨(e 0).trans ?_, (e 1).trans ?_, (e 2).trans ?_⟩
  · rw [squeeze_idx]; rfl
  · rw [squeeze_idx]; exact congrArg _ (emb2 o' sz h' j 0)
  · rw [squeeze_idx]; exact congrArg _ (emb2 o' sz h' j 1)

/-- Where a slab's index lies in the scratch. -/
theorem slab_emb (B l n : ℕ) (o : Fin 3 → ℕ) (o' sz : Fin 2 → ℕ) (h h') (ho : o = ![B % 5, 0, 0]) (ho' : o' = ![l, 0])
    (hs : sz = ![n, 2048]) (j : (⟨2, sz⟩ : Shape).Idx) (i : S5x512x2048.Idx) :
    (slab o o' sz h h').view.emb j = i ↔ (i 0).val = B % 5 ∧ (i 1).val = l + (j 0).val ∧ (i 2).val = (j 1).val := by
  subst ho ho' hs
  obtain ⟨e0, e1, e2⟩ := slab_emb_val _ _ _ h h' j _ rfl
  have e1 := e1.trans (show 0 + (l + (j 0).val) = l + (j 0).val by omega)
  have e2 := e2.trans (show 0 + (0 + (j 1).val) = (j 1).val by omega)
  constructor
  · rintro rfl
    exact ⟨e0, e1, e2⟩
  · rintro ⟨h0, h1, h2⟩
    funext a; apply Fin.ext
    match a with
    | ⟨0, _⟩ => exact e0.trans h0.symm
    | ⟨1, _⟩ => exact e1.trans h1.symm
    | ⟨2, _⟩ => exact e2.trans h2.symm

/-- A slab's elements are the rows it names. -/
theorem slab_set (B l n : ℕ) (o : Fin 3 → ℕ) (o' sz : Fin 2 → ℕ) (h h') (ho : o = ![B % 5, 0, 0]) (ho' : o' = ![l, 0])
    (hs : sz = ![n, 2048]) : (slab o o' sz h h').view.set = rows l n B := by
  ext i
  rw [mem_rows]
  constructor
  · intro hi
    obtain ⟨j, -, hj⟩ := Finset.mem_map.mp hi
    obtain ⟨h0, h1, h2⟩ := (slab_emb B l n o o' sz h h' ho ho' hs j i).mp hj
    have : (j 0).val < sz 0 := (j 0).isLt
    have : (j 0).val < n := this.trans_eq (congrFun hs 0)
    exact ⟨h0, by omega, by omega⟩
  · rintro ⟨h0, h1, h2⟩
    have hj : ∃ j : (⟨2, sz⟩ : Shape).Idx, (i 1).val = l + (j 0).val ∧ (i 2).val = (j 1).val := by
      subst hs
      exact ⟨ix2 ⟨(i 1).val - l, by omega⟩ (i 2), by show (i 1).val = l + ((i 1).val - l); omega, rfl⟩
    obtain ⟨j, h1', h2'⟩ := hj
    exact Finset.mem_map.mpr ⟨j, Finset.mem_univ _, (slab_emb B l n o o' sz h h' ho ho' hs j i).mpr ⟨h0, h1', h2'⟩⟩

end Cert.KernelIdeal.Mesh

end
-- ==== Proof.KernelIdeal.Sched.lean ====
/-
  The protocol of the kernel's semaphores as a schedule of rounds, with the contents each landing hands over.

  Cells of a device: its BARRIER cell (three units, one from each of `zp`, `left`, `right`, once), six SEND cells (round `r`
  returns the source of the send of the kernel's block `r`), thirty RECEIVE cells, one per slot and kind (a round per block of
  that slot). A landing of kind `k` for block `B` hands its owner the rows it covers, holding the sender's copy, and with it
  the rows of the sender's own scratch that the owner may write next — which is what bounds how far a device runs ahead.
-/
module

public import proofs.«01_k».proof.Proof.KernelIdeal.Mesh

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A duty of a round: the barrier cell's round has three, every other cell's one. -/
abbrev Duty : Type := Fin 3
/-- The pipeline's copy of the rounds' algebra and the protocol's. -/
abbrev UU : Type := UR sig nD τ × URounds (GSem nD τ sig) Duty

local notation "𝕄" => MT nD τ sig ℕ (Elt F) ℕ UU ℕ

/-- The pipeline's part of the ghost state. -/
abbrev EP : Emb (UR sig nD τ) (MT nD τ sig ℕ (Elt F) ℕ UU ℕ) := embL
/-- The protocol's part of the ghost state. -/
abbrev ER : Emb (URounds (GSem nD τ sig) Duty) (MT nD τ sig ℕ (Elt F) ℕ UU ℕ) := embR

/-! ## Cells and rounds -/

/-- The barrier cell of a device. -/
abbrev barCell (d : Dev nD) : GSem nD τ sig := ((d : Thread nD τ), .reg barS)
/-- The send cell of kind `k` of a device. -/
abbrev sendCell (k : Fin 6) (d : Dev nD) : GSem nD τ sig := ((d : Thread nD τ), .dma (sendS k))
/-- The receive cell of kind `k` of a device, for the slot of block `B`. -/
abbrev recvCell (k : Fin 6) (d : Dev nD) (B : ℕ) : GSem nD τ sig := ((d : Thread nD τ), .dma (recvS B k))

/-- The round of slot `B % 5` in which block `B` lands; past the last block, the round the last one of the slot left. -/
def rnd (B : ℕ) : ℕ := if B < 26 then B / 5 - 1 else (B - 5) / 5 - 1

/-- The next block in range of the same slot is one round later. -/
theorem rnd_next {B : ℕ} (h : InR B) : rnd (B + 5) = rnd B + 1 := by unfold rnd; split_ifs <;> omega
/-- A block out of range opens no round. -/
theorem rnd_same {B : ℕ} (h : ¬InR B) (hB : B < 26) : rnd (B + 5) = rnd B := by unfold rnd; split_ifs <;> omega

/-- What a transfer of kind `k` credits. -/
def amt (k : Fin 6) : ℕ := len k * 256
theorem amt_pos (k : Fin 6) : 0 < amt k := Nat.mul_pos (len_pos k) (by decide)

/-! ## Contents -/

/-- Device `d`'s partial at row `r` of the kernel's block `b`. -/
def blkOf (X : Dev nD → S8192x2048.Idx → Elt F .f32) (d : Dev nD) (b r : ℕ) (c : Fin 2048) : Elt F .f32 :=
  X d (ix2 ⟨(512 * b + r) % 8192, Nat.mod_lt _ (by decide)⟩ c)

/-- What the landing of kind `k` for block `B` on `d` holds. -/
def rval (X : Dev nD → S8192x2048.Idx → Elt F .f32) (k : Fin 6) (d : Dev nD) (B : ℕ) : Buf (Elt F) (aloc d) :=
  fun i => blkOf X (own k d) (B - 5) (i 1).val (i 2)

/-- What a slot holds once all six have landed. -/
def gathered (X : Dev nD → S8192x2048.Idx → Elt F .f32) (d : Dev nD) (B : ℕ) : Buf (Elt F) (aloc d) :=
  fun i => rval X (kindOf d (i 1).val) d B i

variable (X : Dev nD → S8192x2048.Idx → Elt F .f32)

/-! ## What moves -/

/-- The rows of a landing at any contents. -/
def bare (k : Fin 6) (d : Dev nD) (B : ℕ) : sProp 𝕄 := iprop(∃ f, aloc d ↦[rg k d B]{fullShare} f)
/-- The rows of a landing holding it. -/
def landed (k : Fin 6) (d : Dev nD) (B : ℕ) : sProp 𝕄 := iprop(aloc d ↦[rg k d B]{fullShare} rval X k d B)

open Classical in
/-- The right to write block `B`'s landing of kind `k` on `d`, nothing where there is no such block. -/
def handed (k : Fin 6) (d : Dev nD) (B : ℕ) : sProp 𝕄 :=
  if InR B then iprop(bare k d B ∗ reached ER (recvCell k d B) (rnd B)) else iprop(emp)
/-- The same of the device `d` sends to. -/
abbrev pend (k : Fin 6) (d : Dev nD) (B : ℕ) : sProp 𝕄 := handed (F := F) k (tgt k d) B

/-- The staging buffer of the first operand at step `r`. -/
abbrev stg (r : ℕ) : Memref sig .tc .vmem S512x2048 .f32 := st0_0 ⟨r % 19, Nat.mod_lt _ (by decide)⟩
/-- Rows `l .. l + n - 1` of a block. -/
def brows (l n : ℕ) : Finset S512x2048.Idx := Finset.univ.filter fun i => l ≤ (i 0).val ∧ (i 0).val < l + n
/-- Those rows of the staging buffer. -/
abbrev srows (r l n : ℕ) : Finset (stg r).view.ty.Idx := (stg r).view.setOn (brows l n)

/-- Where a forwarded send reads: the kind of landing it forwards, and the share of its rows the transfer holds. -/
def fwd (k : Fin 6) : Fin 6 := ![0, 0, 0, 1, 2, 0] k
/-- The share of its source that a send of kind `k` borrows: the two full forwards read the same rows. -/
def shr (k : Fin 6) : PosShare TreeShare := ![fullShare, fullShare.left, fullShare.right, fullShare, fullShare, fullShare] k

/-- What the send cell of kind `k` returns in round `r`: a half share of the rows of the staging buffer, or the share of the
    forwarded rows. -/
def sendPay (k : Fin 6) (d : Dev nD) (r : ℕ) : sProp 𝕄 :=
  if k = 0 ∨ k = 5 then iprop(∃ f, (stg r).view.loc (d : Thread nD τ) ↦[srows r (lo k (tgt k d)) (len k)]{fullShare.left} f)
  else iprop(aloc d ↦[rows (lo k (tgt k d)) (len k) (r + 5)]{shr k} rval X (fwd k) d (r + 5))

/-- What a landing of kind `k` for block `B` hands device `d` beside the rows. -/
def extra (k : Fin 6) (d : Dev nD) (B : ℕ) : sProp 𝕄 :=
  if k = 0 then iprop(pend 0 d (B + 1) ∗ pend 5 d (B + 1))
  else if k = 1 then iprop(pend 2 d (B + 1) ∗ pend 4 d B)
  else if k = 2 then iprop(pend 1 d (B + 1) ∗ pend 3 d B)
  else iprop(emp)

/-- What a landing hands its owner: the rows with their contents, and the rows it may write next. -/
def recvPay (k : Fin 6) (d : Dev nD) (B : ℕ) : sProp 𝕄 := iprop(landed X k d B ∗ extra k d B)

/-- What the three barrier units hand device `d`: from `zp`, from `left`, from `right`. -/
def barPay (d : Dev nD) (i : Duty) : sProp 𝕄 :=
  if i = 0 then iprop(pend 0 d 5 ∗ pend 5 d 5) else if i = 1 then iprop(pend 2 d 5) else iprop(pend 1 d 5)

set_option synthInstance.maxHeartbeats 400000 in
instance bare_storable (k d B) : BI.Storable (upEmb : UEmb _ 𝕄) (bare (F := F) k d B) := by unfold bare; infer_instance
instance landed_storable (k d B) : BI.Storable (upEmb : UEmb _ 𝕄) (landed X k d B) := by unfold landed; infer_instance
instance handed_storable (k d B) : BI.Storable (upEmb : UEmb _ 𝕄) (handed (F := F) k d B) := by
  unfold handed; split <;> infer_instance
instance sendPay_storable (k d r) : BI.Storable (upEmb : UEmb _ 𝕄) (sendPay X k d r) := by
  unfold sendPay; split <;> infer_instance
instance extra_storable (k d B) : BI.Storable (upEmb : UEmb _ 𝕄) (extra (F := F) k d B) := by
  unfold extra; (repeat' split) <;> infer_instance
instance recvPay_storable (k d B) : BI.Storable (upEmb : UEmb _ 𝕄) (recvPay X k d B) := by unfold recvPay; infer_instance
instance barPay_storable (d i) : BI.Storable (upEmb : UEmb _ 𝕄) (barPay (F := F) d i) := by
  unfold barPay; (repeat' split) <;> infer_instance

/-! ## The schedule -/

/-- The kind of a DMA semaphore of the kernel's arrays, and the slot of a receive semaphore. -/
def qKind (q : DmaSem sig) : Fin 6 := ⟨(q.val - 9) % 6, Nat.mod_lt _ (by decide)⟩
/-- The slot of a receive semaphore. -/
def qSlot (q : DmaSem sig) : ℕ := (q.val - 15) / 6

/-- The rounds of a cell and their duties. -/
def dutiesOf (g : GSem nD τ sig) (r : ℕ) : Finset Duty :=
  match g.1.2, g.2 with
  | .tc, .reg s => if s = barS ∧ r = 0 then Finset.univ else ∅
  | .tc, .dma q => if q.val < 9 then ∅ else if q.val < 15 then (if r < 16 then {0} else ∅)
      else if 5 * r + 5 + qSlot q < 21 then {0} else ∅
  | _, _ => ∅

/-- The schedule: per cell and round, the duties, their amounts and what each hands over. -/
def rd : Rounds.Schedule (GSem nD τ sig) Duty 𝕄 where
  duties := dutiesOf
  unitless _ := False
  amount g _ _ := match g.2 with | .reg _ => 1 | .dma q => amt (qKind q)
  payload g r i := match g.2 with
    | .reg s => if s = barS then barPay g.1.1 i else iprop(emp)
    | .dma q => if q.val < 15 then sendPay X (qKind q) g.1.1 r else recvPay X (qKind q) g.1.1 (5 * r + 5 + qSlot q)
  amount_pos g _ _ _ := by
    split
    · exact Nat.one_pos
    · exact amt_pos _

instance rd_storable (g : GSem nD τ sig) (r : ℕ) (i : Duty) : BI.Storable (upEmb : UEmb _ 𝕄) ((rd X).payload g r i) := by
  show BI.Storable upEmb (match g.2 with
    | .reg s => if s = barS then barPay g.1.1 i else iprop(emp)
    | .dma q => if q.val < 15 then sendPay X (qKind q) g.1.1 r else recvPay X (qKind q) g.1.1 (5 * r + 5 + qSlot q))
  (repeat' split) <;> infer_instance

/-! ## The schedule's entries, cell by cell -/

theorem qKind_send (k : Fin 6) : qKind (sendS k) = k := by revert k; decide
theorem qKind_recv (k : Fin 6) (B : ℕ) : qKind (recvS B k) = k := by
  apply Fin.ext; show (15 + 6 * (B % 5) + k.val - 9) % 6 = k.val; have := k.isLt; omega
theorem qSlot_recv (k : Fin 6) (B : ℕ) : qSlot (recvS B k) = B % 5 := by
  show (15 + 6 * (B % 5) + k.val - 15) / 6 = B % 5; have := k.isLt; omega
theorem send_val (k : Fin 6) : ¬(sendS k).val < 9 ∧ (sendS k).val < 15 := by revert k; decide
theorem recv_val (k : Fin 6) (B : ℕ) : ¬(recvS B k).val < 15 ∧ ¬(recvS B k).val < 9 := by
  show ¬(15 + 6 * (B % 5) + k.val < 15) ∧ ¬(15 + 6 * (B % 5) + k.val < 9); omega

/-- A block is determined by its round and its slot. -/
theorem block_rnd {B : ℕ} (h : InR B) : 5 * rnd B + 5 + B % 5 = B := by unfold rnd; split_ifs <;> omega

variable (d : Dev nD) (k : Fin 6)

omit [FloatOps F] in
/-- The barrier cell has three duties in its only round. -/
theorem duties_bar : (rd X).duties (barCell d) 0 = Finset.univ := by
  show (if barS = barS ∧ 0 = 0 then Finset.univ else ∅) = _
  exact if_pos ⟨rfl, rfl⟩
omit [FloatOps F] in
theorem duties_bar_later : ∀ r, 1 ≤ r → (rd X).duties (barCell d) r = ∅ := fun r hr => by
  show (if barS = barS ∧ r = 0 then Finset.univ else ∅) = _
  exact if_neg fun h => by omega
omit [FloatOps F] in
/-- A send cell has one duty in each of its sixteen rounds. -/
theorem duties_send {r : ℕ} (h : r < 16) : (rd X).duties (sendCell k d) r = {0} := by
  show (if _ then _ else _) = _
  rw [if_neg (send_val k).1, if_pos (send_val k).2, if_pos h]
omit [FloatOps F] in
theorem duties_send_later : ∀ r, 16 ≤ r → (rd X).duties (sendCell k d) r = ∅ := fun r h => by
  show (if _ then _ else _) = _
  rw [if_neg (send_val k).1, if_pos (send_val k).2, if_neg (by omega)]
omit [FloatOps F] in
/-- A receive cell has one duty in the round of each block in range. -/
theorem duties_recv {B : ℕ} (h : InR B) : (rd X).duties (recvCell k d B) (rnd B) = {0} := by
  show (if _ then _ else _) = _
  rw [if_neg (recv_val k B).2, if_neg (recv_val k B).1, qSlot_recv, block_rnd h, if_pos h.2]
omit [FloatOps F] in
/-- A receive cell has no duty after its last block. -/
theorem duties_recv_later {B : ℕ} (h : 21 ≤ B) (hB : B < 31) :
    ∀ r, rnd B ≤ r → (rd X).duties (recvCell k d B) r = ∅ := fun r hr => by
  show (if _ then _ else _) = _
  rw [if_neg (recv_val k B).2, if_neg (recv_val k B).1, qSlot_recv, if_neg]
  unfold rnd at hr; split_ifs at hr <;> omega

omit [FloatOps F] in
/-- A signal is one unit; a copy is its credit. -/
theorem amount_bar (r : ℕ) (i : Duty) : (rd X).amount (barCell d) r i = 1 := rfl
omit [FloatOps F] in
theorem amount_send (r : ℕ) (i : Duty) : (rd X).amount (sendCell k d) r i = amt k := by
  show amt (qKind _) = _; rw [qKind_send]
omit [FloatOps F] in
theorem amount_recv (B r : ℕ) (i : Duty) : (rd X).amount (recvCell k d B) r i = amt k := by
  show amt (qKind _) = _; rw [qKind_recv]

omit [FloatOps F] in
/-- What a round's units add up to. -/
theorem expect_bar : (rd X).expect (barCell d) 0 = 3 := by
  unfold Schedule.expect Schedule.amountOf; rw [duties_bar]; rfl
omit [FloatOps F] in
theorem expect_send {r : ℕ} (h : r < 16) : (rd X).expect (sendCell k d) r = amt k := by
  unfold Schedule.expect Schedule.amountOf; rw [duties_send X d k h, Finset.sum_singleton, amount_send]
omit [FloatOps F] in
theorem expect_recv {B : ℕ} (h : InR B) : (rd X).expect (recvCell k d B) (rnd B) = amt k := by
  unfold Schedule.expect Schedule.amountOf; rw [duties_recv X d k h, Finset.sum_singleton, amount_recv]

omit [FloatOps F] in
/-- What each cell's duty hands over. -/
theorem payload_bar (i : Duty) : (rd X).payload (barCell d) 0 i = barPay d i := by
  show (if barS = barS then barPay d i else iprop(emp)) = _
  exact if_pos rfl
omit [FloatOps F] in
theorem payload_send (r : ℕ) (i : Duty) : (rd X).payload (sendCell k d) r i = sendPay X k d r := by
  show (if _ then _ else _) = _
  rw [if_pos (send_val k).2, qKind_send]
omit [FloatOps F] in
theorem payload_recv {B : ℕ} (h : InR B) (i : Duty) : (rd X).payload (recvCell k d B) (rnd B) i = recvPay X k d B := by
  show (if _ then _ else _) = _
  rw [if_neg (recv_val k B).1, qKind_recv, qSlot_recv, block_rnd h]

omit [FloatOps F] in
/-- What a whole round hands over. -/
theorem rest_bar : bigSep ((rd X).duties (barCell d) 0 \ ∅) (fun i => (rd X).payload (barCell d) 0 i)
    = iprop((pend 0 d 5 ∗ pend 5 d 5) ∗ pend 2 d 5 ∗ pend 1 d 5) := by
  rw [Finset.sdiff_empty, duties_bar, bigSep_congr fun i _ => payload_bar X d i, bigSep_univ_eq_bigSepL [0, 1, 2] (by decide) (by decide)]
  simp only [bigSepL, barPay]
  simp
  rfl
omit [FloatOps F] in
theorem rest_send {r : ℕ} (h : r < 16) :
    bigSep ((rd X).duties (sendCell k d) r \ ∅) (fun i => (rd X).payload (sendCell k d) r i) = sendPay X k d r := by
  rw [Finset.sdiff_empty, duties_send X d k h, bigSep_singleton, payload_send]
omit [FloatOps F] in
theorem rest_recv {B : ℕ} (h : InR B) :
    bigSep ((rd X).duties (recvCell k d B) (rnd B) \ ∅) (fun i => (rd X).payload (recvCell k d B) (rnd B) i) = recvPay X k d B := by
  rw [Finset.sdiff_empty, duties_recv X d k h, bigSep_singleton, payload_recv X d k h]

end Cert.KernelIdeal.Mesh

end
-- ==== Proof.KernelIdeal.Owed.lean ====
/-
  What a device owes, and why it may wait: the credit of every landing it has still to send, at a level that grows with the
  step of the send. At step `t` a device waits at levels up to `t + 1` and owes at levels from `t + 2`.
-/
module

public import proofs.«01_k».proof.Proof.KernelIdeal.Sched

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The level of the landing of kind `k` for block `B`: two more than the step that sends it. -/
def lvl (k : Fin 6) (B : ℕ) : ℕ := B - sOff k + 2

/-- What device `d` owes for its send of kind `k` for block `B`. -/
def due (k : Fin 6) (d : Dev nD) (B : ℕ) : CellTallies nD τ sig ℕ :=
  if InR B then tallyAt (recvCell k (tgt k d) B) (lvl k B) (amt k) else 0

/-- What it owes for its sends of kind `k` from block `x` on. -/
def dueFrom (k : Fin 6) (d : Dev nD) (x : ℕ) : CellTallies nD τ sig ℕ := ∑ B ∈ Finset.Ico x 40, due k d B

/-- The blocks still to come, the first one apart. -/
theorem ico_pop {x : ℕ} (hx : x < 40) : Finset.Ico x 40 = insert x (Finset.Ico (x + 1) 40) := by
  ext B; rw [Finset.mem_insert, Finset.mem_Ico, Finset.mem_Ico]; omega

/-- What is owed from block `x` on is what is owed from the next on and what is owed for `x`. -/
theorem dueFrom_pop (k : Fin 6) (d : Dev nD) {x : ℕ} (hx : x < 40) : dueFrom k d x = dueFrom k d (x + 1) + due k d x := by
  unfold dueFrom; rw [ico_pop hx, Finset.sum_insert (by rw [Finset.mem_Ico]; omega), add_comm]

/-- Nothing is owed after the last block. -/
theorem dueFrom_end (k : Fin 6) (d : Dev nD) {x : ℕ} (hx : 21 ≤ x) : dueFrom k d x = 0 := by
  unfold dueFrom
  refine Finset.sum_eq_zero fun B hB => if_neg fun h => ?_
  have := (Finset.mem_Ico.mp hB).1
  omega

/-- The three units of the entry handshake, owed at the first step only. -/
def barDue (d : Dev nD) (t : ℕ) : CellTallies nD τ sig ℕ :=
  if t = 0 then tallyAt (barCell (left d)) 1 1 + tallyAt (barCell (right d)) 1 1 + tallyAt (barCell (zp d)) 1 1 else 0

/-- The sends of all kinds from step `t` on. -/
def sends (d : Dev nD) (t : ℕ) : CellTallies nD τ sig ℕ :=
  dueFrom 0 d (t + 5) + dueFrom 5 d (t + 5) + dueFrom 1 d (t + 4) + dueFrom 2 d (t + 4) + dueFrom 3 d (t + 3) + dueFrom 4 d (t + 3)

/-- What a device owes before step `t`: its sends still to come, and at the start its three signals. -/
def owed (d : Dev nD) (t : ℕ) : CellTallies nD τ sig ℕ := sends d t + barDue d t

/-- In program order: the last payment of a step outermost. -/
theorem sends_pop (d : Dev nD) {t : ℕ} (ht : t < 19) :
    sends d t = sends d (t + 1) + due 4 d (t + 3) + due 3 d (t + 3) + due 2 d (t + 4) + due 1 d (t + 4) + due 5 d (t + 5)
      + due 0 d (t + 5) := by
  unfold sends
  rw [dueFrom_pop 0 d (x := t + 5) (by omega), dueFrom_pop 5 d (x := t + 5) (by omega), dueFrom_pop 1 d (x := t + 4) (by omega),
    dueFrom_pop 2 d (x := t + 4) (by omega), dueFrom_pop 3 d (x := t + 3) (by omega), dueFrom_pop 4 d (x := t + 3) (by omega)]
  rw [show t + 1 + 5 = t + 5 + 1 by omega, show t + 1 + 4 = t + 4 + 1 by omega, show t + 1 + 3 = t + 3 + 1 by omega]
  ac_rfl

/-- After the handshake only sends are owed. -/
theorem owed_succ (d : Dev nD) (t : ℕ) : owed d (t + 1) = sends d (t + 1) := by
  unfold owed barDue; rw [if_neg (by omega), add_zero]

/-- At the end nothing is owed. -/
theorem owed_end (d : Dev nD) : owed d 19 = 0 := by
  unfold owed sends barDue
  simp only [dueFrom_end _ _ (show 21 ≤ 19 + 5 by omega), dueFrom_end _ _ (show 21 ≤ 19 + 4 by omega),
    dueFrom_end _ _ (show 21 ≤ 19 + 3 by omega), if_neg (show ¬(19 = 0) by omega), add_zero]

/-! ## Levels -/

/-- The levels of a cell: naturals below 32, each its own rank. -/
def L (g : GSem nD τ sig) : Finset ℕ := if g.1.2 = .tc then Finset.range 32 else ∅
/-- A credit's level is its index. -/
def lv (_ : GSem nD τ sig) (i : ℕ) : ℕ := i

/-- Only the TensorCores' cells have levels. -/
theorem L_of_ne (g : GSem nD τ sig) (h : g.1.2 ≠ .tc) : L g = ∅ := if_neg h
/-- The levels of a cell: 0 to 31. -/
theorem L_tc (d : Dev nD) (sm : SemLoc sig) : L ((d : Thread nD τ), sm) = Finset.range 32 := if_pos rfl

/-- Everything in `O` is owed at a level from `n` on. -/
def High (n : ℕ) (O : CellTallies nD τ sig ℕ) : Prop := ∀ g i, 0 < O g i → i ∈ L g ∧ n ≤ i

/-- Owing nothing is owing at levels from any `n`. -/
theorem High.zero (n : ℕ) : High n 0 := fun g i h => absurd h (Nat.lt_irrefl 0)
/-- Both parts at levels from `n`, so their sum. -/
theorem High.add {n : ℕ} {O O' : CellTallies nD τ sig ℕ} (h : High n O) (h' : High n O') : High n (O + O') := fun g i hp => by
  have hp : 0 < O g i + O' g i := hp
  rcases Nat.eq_zero_or_pos (O g i) with h0 | h0
  · exact h' g i (by omega)
  · exact h g i h0
/-- Levels from `n` are levels from any lower `n'`. -/
theorem High.mono {n n' : ℕ} {O : CellTallies nD τ sig ℕ} (h : High n O) (hn : n' ≤ n) : High n' O :=
  fun g i hp => ⟨(h g i hp).1, hn.trans (h g i hp).2⟩

/-- A single credit of level `i`, at levels from any `n` up to `i`. -/
theorem High.tally {n i k : ℕ} (d : Dev nD) (sm : SemLoc sig) (hn : n ≤ i) (hi : i < 32) :
    High n (tallyAt ((d : Thread nD τ), sm) i k) := fun g j hp => by
  rw [tallyAt_apply] at hp
  by_cases h : g = ((d : Thread nD τ), sm) ∧ j = i
  · rw [h.1, h.2, L_tc]; exact ⟨Finset.mem_range.mpr hi, hn⟩
  · rw [if_neg h] at hp; exact absurd hp (Nat.lt_irrefl 0)

theorem sOff_le (k : Fin 6) : 3 ≤ sOff k ∧ sOff k ≤ 5 := by revert k; decide

/-- What is owed for a block is at the level of its step. -/
theorem High.due (k : Fin 6) (d : Dev nD) {B n : ℕ} (h : n + sOff k ≤ B + 2) : High n (due k d B) := by
  unfold Mesh.due
  split
  · rename_i hB
    have := sOff_le k
    exact High.tally _ _ (by unfold lvl; omega) (by unfold lvl; omega)
  · exact High.zero n

/-- So is what is owed from a block on. -/
theorem High.dueFrom (k : Fin 6) (d : Dev nD) {x n : ℕ} (h : n + sOff k ≤ x + 2) : High n (dueFrom k d x) := by
  unfold Mesh.dueFrom
  have : ∀ S : Finset ℕ, (∀ B ∈ S, x ≤ B) → High n (∑ B ∈ S, Mesh.due k d B) := by
    intro S
    induction S using Finset.induction_on with
    | empty => intro _; exact High.zero n
    | insert a S ha ih =>
      intro hS
      rw [Finset.sum_insert ha]
      exact (High.due k d (by have := hS a (Finset.mem_insert_self _ _); omega)).add
        (ih fun B hB => hS B (Finset.mem_insert_of_mem hB))
  exact this _ fun B hB => (Finset.mem_Ico.mp hB).1

/-- Before step `t` the sends owed are at levels from `t + 2`. -/
theorem High.sends (d : Dev nD) (t : ℕ) : High (t + 2) (sends d t) := by
  unfold Mesh.sends
  exact (((((High.dueFrom 0 d (by show t + 2 + 5 ≤ _; omega)).add (High.dueFrom 5 d (by show t + 2 + 5 ≤ _; omega))).add
    (High.dueFrom 1 d (by show t + 2 + 4 ≤ _; omega))).add (High.dueFrom 2 d (by show t + 2 + 4 ≤ _; omega))).add
    (High.dueFrom 3 d (by show t + 2 + 3 ≤ _; omega))).add (High.dueFrom 4 d (by show t + 2 + 3 ≤ _; omega))

/-- A device may wait at a level below all it owes. -/
theorem mayWait (d : Dev nD) (sm : SemLoc sig) {i n : ℕ} {O : CellTallies nD τ sig ℕ} (hO : High n O) (hi : i < n) (h32 : i < 32) :
    (levAts L lv : sProp 𝕄) ⊢ MayWait (d : Thread nD τ) sm i O :=
  MayOwe.of_cut (L := L) (lev := lv) i
    (fun p hp => by rw [Finset.mem_singleton.mp hp, L_tc]; exact Finset.mem_range.mpr h32)
    (fun g j hg => (hO g j hg).1)
    (fun p hp => by rw [Finset.mem_singleton.mp hp]; exact le_rfl)
    (fun g j hg => lt_of_lt_of_le hi (hO g j hg).2)

/-- The levels of the waits of step `t`. -/
theorem lvl_wait (k : Fin 6) {t : ℕ} (h : InR (t + wOff k)) : lvl k (t + wOff k) < t + 2 := by
  have : wOff k + 1 ≤ sOff k ∧ wOff k ≤ 4 := by clear h; revert k; decide
  unfold lvl; omega
/-- Levels of blocks in range are below 32. -/
theorem lvl_lt (k : Fin 6) {B : ℕ} (h : InR B) : lvl k B < 32 := by unfold lvl; omega

end Cert.KernelIdeal.Mesh

end
-- ==== Proof.KernelIdeal.Ops.lean ====
/-
  One rule per semaphore operation of the kernel, at the protocol's cells: the entry handshake, a send, the wait on a receive
  cell, the wait on a send cell. Each is stated for any memrefs and semaphores that EQUAL the ones the protocol names.
-/
module

public import proofs.«01_k».proof.Proof.KernelIdeal.Owed

@[expose] public section

noncomputable section

namespace Cert.KernelIdeal.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-- The kernel's variants: none. -/
abbrev 𝒱₀ : Variants := Variants.none

/-- The weakest precondition of a program on device `d`. -/
abbrev wpd (d : Dev nD) {α : Type} (P : Prog (TpuEff nD τ sig (Elt F) Λ₀ .tc) α) (Q : α → sProp 𝕄) : sProp 𝕄 :=
  wp frame (wpE (defs₀ (F := F)) 𝒱₀ (d : Thread nD τ) none) Set.univ P Q

/-! ## The cells -/

/-- The barrier cells of the devices. -/
def barCells : Finset (GSem nD τ sig) := Finset.univ.map ⟨barCell, fun a b h => (Prod.ext_iff.mp (Prod.ext_iff.mp h).1).1⟩
/-- The kernel's send and receive cells of the devices. -/
def dmaCells : Finset (GSem nD τ sig) :=
  ((Finset.univ : Finset (Dev nD)) ×ˢ (Finset.univ.filter fun q : DmaSem sig => 9 ≤ q.val)).map
    ⟨fun p => ((p.1 : Thread nD τ), .dma p.2), fun a b h => by
      have h1 := (Prod.ext_iff.mp (Prod.ext_iff.mp h).1).1
      have h2 := SemLoc.dma.inj (Prod.ext_iff.mp h).2
      exact Prod.ext h1 h2⟩

theorem mem_bar (d : Dev nD) : barCell d ∈ barCells := Finset.mem_map_of_mem _ (Finset.mem_univ d)
theorem mem_dma (d : Dev nD) (q : DmaSem sig) (h : 9 ≤ q.val) : (((d : Thread nD τ), .dma q) : GSem nD τ sig) ∈ dmaCells :=
  Finset.mem_map.mpr ⟨(d, q), Finset.mem_product.mpr ⟨Finset.mem_univ _, Finset.mem_filter.mpr ⟨Finset.mem_univ _, h⟩⟩, rfl⟩
theorem mem_send (k : Fin 6) (d : Dev nD) : sendCell k d ∈ dmaCells := mem_dma d _ (by have := (send_val k).1; omega)
theorem mem_recv (k : Fin 6) (d : Dev nD) (B : ℕ) : recvCell k d B ∈ dmaCells := mem_dma d _ (by have := (recv_val k B).2; omega)

/-- Every cell's invariant, under the names `K` the launch allocated them at. -/
def invs (K : GSem nD τ sig → ℕ) : sProp 𝕄 := bigSep (barCells ∪ dmaCells) fun g => cellInv ER (rd X) (K g) g

instance invs_persistent (K : GSem nD τ sig → ℕ) : BI.Persistent (invs X K) := by unfold invs; infer_instance

omit [FloatOps F] in
/-- The invariant of one cell, out of all. -/
theorem inv_of (K : GSem nD τ sig → ℕ) {g : GSem nD τ sig} (hg : g ∈ barCells ∪ dmaCells) :
    invs X K ⊢ cellInv ER (rd X) (K g) g := bigSep_elim hg
omit [FloatOps F] in
/-- The invariant of a barrier cell. -/
theorem inv_bar (K : GSem nD τ sig → ℕ) (d : Dev nD) : invs X K ⊢ cellInv ER (rd X) (K (barCell d)) (barCell d) :=
  inv_of X K (Finset.mem_union_left _ (mem_bar d))
omit [FloatOps F] in
/-- The invariant of a send cell. -/
theorem inv_send (K : GSem nD τ sig → ℕ) (k : Fin 6) (d : Dev nD) :
    invs X K ⊢ cellInv ER (rd X) (K (sendCell k d)) (sendCell k d) := inv_of X K (Finset.mem_union_right _ (mem_send k d))
omit [FloatOps F] in
/-- The invariant of a receive cell. -/
theorem inv_recv (K : GSem nD τ sig → ℕ) (k : Fin 6) (d : Dev nD) (B : ℕ) :
    invs X K ⊢ cellInv ER (rd X) (K (recvCell k d B)) (recvCell k d B) := inv_of X K (Finset.mem_union_right _ (mem_recv k d B))

/-! ## What rides between steps -/

/-- What the device owes, its record of waits not tracked. -/
def ow (d : Dev nD) (O : CellTallies nD τ sig ℕ) : sProp 𝕄 := iprop(∃ W, owes (d : Thread nD τ) O W)

/-- The device's position on the receive cell of kind `k` for block `B`, and on the send cell of kind `k` before block `B`. -/
def posn (k : Fin 6) (d : Dev nD) (B : ℕ) : sProp 𝕄 :=
  iprop(atPos ER (recvCell k d B) (rnd B) ∅ 0 ∗ reached ER (recvCell k d B) (rnd B))
def spos (k : Fin 6) (d : Dev nD) (B : ℕ) : sProp 𝕄 :=
  iprop(atPos ER (sendCell k d) (min (B - 5) 16) ∅ 0 ∗ reached ER (sendCell k d) (min (B - 5) 16))
/-- That the receive cell has reached block `B`'s round. -/
abbrev rch (k : Fin 6) (d : Dev nD) (B : ℕ) : sProp 𝕄 := reached ER (recvCell k d B) (rnd B)

/-- The credit the wait for block `B` spends; the tokens its send spends; the credit that send returns. -/
def crd (k : Fin 6) (d : Dev nD) (B : ℕ) : sProp 𝕄 :=
  if InR B then iprop(cred (tallyAt (recvCell k d B) (lvl k B) (amt k))) else iprop(emp)
def tok (k : Fin 6) (d : Dev nD) (B : ℕ) : sProp 𝕄 :=
  if InR B then iprop(dutyTok ER (recvCell k (tgt k d) B) (rnd B) 0 ∗ dutyTok ER (sendCell k d) (B - 5) 0) else iprop(emp)
def scrd (k : Fin 6) (d : Dev nD) (B : ℕ) : sProp 𝕄 :=
  if InR B then iprop(cred (tallyAt (sendCell k d) 0 (amt k))) else iprop(emp)

/-- The rows of a landing after its wait, and between their hand-over and its wait. -/
def ownv (k : Fin 6) (d : Dev nD) (B : ℕ) : sProp 𝕄 := if InR B then landed X k d B else bare k d B
def away (k : Fin 6) (d : Dev nD) (B : ℕ) : sProp 𝕄 := if InR B then iprop(emp) else bare k d B

omit [FloatOps F] in
/-- Past a block out of range a device's place in a receive cell's rounds is unchanged. -/
theorem posn_next {k : Fin 6} {d : Dev nD} {B : ℕ} (h : ¬InR B) (hB : B < 26) :
    (posn k d B : sProp 𝕄) = posn k d (B + 5) := by
  unfold posn
  rw [rnd_same h hB, show recvCell k d (B + 5) = recvCell k d B by unfold recvCell recvS; simp]
omit [FloatOps F] in
/-- The rows of a landing are those of the next block of its slot. -/
theorem bare_next (k : Fin 6) (d : Dev nD) (B : ℕ) : (bare k d (B + 5) : sProp 𝕄) = bare k d B := by
  unfold bare; rw [rg_congr (show (B + 5) % 5 = B % 5 by omega)]
omit [FloatOps F] in
/-- Past a block out of range a device's place in a send cell's rounds is unchanged. -/
theorem spos_next {k : Fin 6} {d : Dev nD} {B : ℕ} (h : ¬InR B) : (spos k d B : sProp 𝕄) = spos k d (B + 1) := by
  unfold spos; rw [show min (B + 1 - 5) 16 = min (B - 5) 16 by omega]
omit [FloatOps F] in
/-- The rows of a landing, their contents forgotten. -/
theorem landed_bare (k : Fin 6) (d : Dev nD) (B : ℕ) : landed X k d B ⊢ (bare k d B : sProp 𝕄) := by
  unfold landed bare; iintro H; iexists _; iexact H

/-! ## Credits -/

/-- The credit of a copy of a landing's rows. -/
theorem slab_credit (k : Fin 6) (o : Fin 3 → ℕ) (o' sz : Fin 2 → ℕ) (h h') (hs : sz = ![len k, 2048]) :
    (slab o o' sz h h').view.dmaCredit = amt k := by
  subst hs
  show RefSig.tileCredit ⟨2, ![len k, 2048]⟩ .f32 = len k * 256
  clear h h'
  revert k; decide +kernel

/-! ## Waits -/

/-- The wait on the receive cell of block `B`: its landing is the device's, and what came with it. -/
theorem wp_recv (K : GSem nD τ sig → ℕ) (k : Fin 6) (d : Dev nD) {B : ℕ} (hB : InR B) {n : ℕ} {O : CellTallies nD τ sig ℕ}
    (hO : High n O) (hl : lvl k B < n) {q : DmaSem sig} (hq : q = recvS B k)
    {sp sp' : Space} {s s' : Shape} {e e' : EltTy} {src : Memref sig .tc sp s e} {dst : Memref sig .tc sp' s' e'}
    {hsrc : src.view.WordExact} {hdst : dst.view.WordExact} (hc : dst.view.dmaCredit = amt k)
    {α : Type} {Q : α → sProp 𝕄} {kk : PUnit → Prog (TpuEff nD τ sig (Elt F) Λ₀ .tc) α} :
    iprop(invs X K ∗ levAts L lv ∗ crd k d B ∗ ow d O ∗ posn k d B)
      ⊢ iprop(((ow d O ∗ posn k d (B + 5) ∗ recvPay X k d B) -∗ wpd d (kk ⟨⟩) Q)
          -∗ wpd d (.op (.waitDma2 q src dst hsrc hdst) kk) Q) := by
  subst hq
  unfold crd ow posn
  rw [if_pos hB, rnd_next hB, show recvCell k d (B + 5) = recvCell k d B by unfold recvCell recvS; simp]
  iintro ⟨#HI, #Hlev, Hc, ⟨%W, HO⟩, Hp, #Hr⟩ Hk
  iapply (Rounds.wp_wait_rest_token 𝒱₀ ER (rd X) (d : Thread nD τ) none (κ := K (recvCell k d B))
      (wpE_waitDma2_eq 𝒱₀ (d : Thread nD τ) none Set.univ) (Set.mem_univ _) (lvl k B) (O := O) (W := W) (R := rnd B) (m := 0) (T := ∅)
      (by rw [expect_recv X d k hB, hc, zero_add])) $$ [Hc HO Hp]
  · isplitr; · iapply (inv_recv X K k d B); iexact HI
    isplitl [Hc]; · rw [hc]; iexact Hc
    isplitl [HO]; · iexact HO
    isplitr; · iapply (mayWait d (.dma (recvS B k)) hO hl (lvl_lt k hB)); iexact Hlev
    iexact Hp
  rw [rest_recv X d k hB]
  iintro ⟨HO, Hp, #Hr', Hpay⟩
  iapply Hk
  isplitl [HO]; · iexists _; iexact HO
  isplitr [Hpay]; · isplitl [Hp]; · iexact Hp
                    iexact Hr'
  iexact Hpay

/-- The wait on the send cell of block `B`: the source is the device's again. -/
theorem wp_sent (K : GSem nD τ sig → ℕ) (k : Fin 6) (d : Dev nD) {B : ℕ} (hB : InR B) {n : ℕ} {O : CellTallies nD τ sig ℕ}
    (hO : High n O) (hl : 0 < n) {q : DmaSem sig} (hq : q = sendS k)
    {sp sp' : Space} {s s' : Shape} {e e' : EltTy} {src : Memref sig .tc sp s e} {dst : Memref sig .tc sp' s' e'}
    {hsrc : src.view.WordExact} {hdst : dst.view.WordExact} (hc : dst.view.dmaCredit = amt k)
    {α : Type} {Q : α → sProp 𝕄} {kk : PUnit → Prog (TpuEff nD τ sig (Elt F) Λ₀ .tc) α} :
    iprop(invs X K ∗ levAts L lv ∗ scrd k d B ∗ ow d O ∗ spos k d B)
      ⊢ iprop(((ow d O ∗ spos k d (B + 1) ∗ sendPay X k d (B - 5)) -∗ wpd d (kk ⟨⟩) Q)
          -∗ wpd d (.op (.waitDma2 q src dst hsrc hdst) kk) Q) := by
  subst hq
  unfold scrd ow spos
  rw [if_pos hB, show min (B - 5) 16 = B - 5 by omega, show min (B + 1 - 5) 16 = B - 5 + 1 by omega]
  iintro ⟨#HI, #Hlev, Hc, ⟨%W, HO⟩, Hp, #Hr⟩ Hk
  iapply (Rounds.wp_wait_rest_token 𝒱₀ ER (rd X) (d : Thread nD τ) none (κ := K (sendCell k d))
      (wpE_waitDma2_eq 𝒱₀ (d : Thread nD τ) none Set.univ) (Set.mem_univ _) 0 (O := O) (W := W) (R := B - 5) (m := 0) (T := ∅)
      (by rw [expect_send X d k (by omega), hc, zero_add])) $$ [Hc HO Hp]
  · isplitr; · iapply (inv_send X K k d); iexact HI
    isplitl [Hc]; · rw [hc]; iexact Hc
    isplitl [HO]; · iexact HO
    isplitr; · iapply (mayWait d (.dma (sendS k)) hO hl (by decide)); iexact Hlev
    iexact Hp
  rw [rest_send X d k (by omega)]
  iintro ⟨HO, Hp, #Hr', Hpay⟩
  iapply Hk
  isplitl [HO]; · iexists _; iexact HO
  isplitr [Hpay]; · isplitl [Hp]; · iexact Hp
                    iexact Hr'
  iexact Hpay

/-! ## Sends -/

/-- The send of kind `k` for block `B`: the source's elements go to the transfer, the target's rows the device was handed are
    spent, and what the landing hands over beside them. -/
theorem wp_sendX (K : GSem nD τ sig → ℕ) (k : Fin 6) (d : Dev nD) {B : ℕ} (hB : InR B) (O : CellTallies nD τ sig ℕ)
    {nv : ℕ} (hnv : nv < nD) (hn : nv = (tgt k d).val) {qs qr : DmaSem sig} (hqs : qs = sendS k) (hqr : qr = recvS B k)
    (o : Fin 3 → ℕ) (o' sz : Fin 2 → ℕ) (h h') (ho : o = ![B % 5, 0, 0]) (ho' : o' = ![lo k (tgt k d), 0]) (hs : sz = ![len k, 2048])
    {src : Memref sig .tc .vmem ⟨2, sz⟩ .f32}
    {hsc : (slab o o' sz h h' : Memref sig (Dev.tc (⟨nv, hnv⟩ : Dev nD) : Thread nD τ).2.kind .vmem ⟨2, sz⟩ .f32).view.ref.isScScratch = false}
    {hsrc : src.view.WordExact} {hdst : (slab o o' sz h h').view.WordExact}
    {hsem : DmaTarget.Typed .vmem (.dma qr) (.remote (Dev.tc (⟨nv, hnv⟩ : Dev nD) : Thread nD τ) (slab o o' sz h h') (.dma qs) hsc)}
    (q : PosShare TreeShare) (fs : Buf (Elt F) (src.view.loc (d : Thread nD τ)))
    (hpay : (src.view.loc (d : Thread nD τ) ↦[src.view.set]{q} fs : sProp 𝕄) ⊢ sendPay X k d (B - 5))
    (hcopy : ∀ j, src.view.read (Elt F) fs j = blkOf X (own k (tgt k d)) (B - 5) (lo k (tgt k d) + (j 0).val) ⟨(j 1).val, (j 1).isLt.trans_eq (congrFun hs 1)⟩)
    {α : Type} {Q : α → sProp 𝕄} {kk : PUnit → Prog (TpuEff nD τ sig (Elt F) Λ₀ .tc) α} :
    iprop(invs X K ∗ (src.view.loc (d : Thread nD τ) ↦[src.view.set]{q} fs) ∗ pend k d B ∗ extra k (tgt k d) B
        ∗ ow d (O + due k d B) ∗ tok k d B ∗ reached ER (sendCell k d) (B - 5))
      ⊢ iprop(((scrd k d B ∗ ow d O) -∗ wpd d (kk ⟨⟩) Q)
          -∗ wpd d (.op (.enqueueDma src (.remote (Dev.tc (⟨nv, hnv⟩ : Dev nD) : Thread nD τ) (slab o o' sz h h') (.dma qs) hsc) (.dma qr)
              hsrc hdst hsem) kk) Q) := by
  have hd : (⟨nv, hnv⟩ : Dev nD) = tgt k d := Fin.ext hn
  generalize (⟨nv, hnv⟩ : Dev nD) = n at hd hsc hsem ⊢
  subst hd
  subst hqs hqr
  have hset := slab_set B _ _ o o' sz h h' ho ho' hs
  have hcr := slab_credit k o o' sz h h' hs
  unfold pend handed due scrd tok ow
  rw [if_pos hB, if_pos hB, if_pos hB, if_pos hB]
  unfold bare
  iintro ⟨#HI, Hsrc, ⟨⟨%fd, Hd⟩, #Hrr⟩, Hx, ⟨%W, HO⟩, ⟨Htr, Hts⟩, #Hrs⟩ Hk
  iapply (Rounds.wp_send_pointsTo_with 𝒱₀ ER (rd X) (d : Thread nD τ) none (c' := (tgt k d : Thread nD τ)) (src := src)
      (dst := slab o o' sz h h') (sS := .dma (sendS k)) (sem := .dma (recvS B k)) (q := q) (fs := fs)
      (κ₁ := K (sendCell k d)) (κ₂ := K (recvCell k (tgt k d) B))
      (r₁ := B - 5) (r₂ := rnd B) (d₁ := 0) (d₂ := 0) (fd := fd) (F := extra k (tgt k d) B)
      (by rw [duties_send X d k (by omega)]; exact Finset.mem_singleton_self _)
      (by rw [duties_recv X (tgt k d) k hB]; exact Finset.mem_singleton_self _)
      (lvl k B) 0 (amt k) ((View.amount_dma _ _).trans hcr) (amount_send X d k _ _) (amount_recv X (tgt k d) k B _ _) O rfl (W := W)
      (by rw [payload_send]; exact hpay)
      (by
        rw [payload_recv X (tgt k d) k hB]; unfold recvPay landed
        refine BI.sep_mono ?_ (Entails.refl _)
        rw [hset]
        refine Entails.of_eq (pointsTo_congr fun i hi => ?_)
        have hi' : i ∈ (slab o o' sz h h').view.set := hset ▸ hi
        obtain ⟨j, -, hj⟩ := Finset.mem_map.mp hi'
        obtain ⟨h0, h1, h2⟩ := (slab_emb B _ _ o o' sz h h' ho ho' hs j i).mp hj
        rw [← hj, View.write_emb_of_mem _ _ (Finset.mem_univ _), hj]
        refine (cast_eq _ _).trans ((hcopy j).trans ?_)
        unfold rval
        rw [h1]
        exact congrArg _ (Fin.ext h2.symm)))
    $$ [Hsrc Hd Hx HO Htr Hts]
  · isplitr; · iapply (inv_send X K k d); iexact HI
    isplitr; · iapply (inv_recv X K k (tgt k d) B); iexact HI
    isplitl [Hsrc]; · iexact Hsrc
    isplitl [Hd Hx]
    · isplitl [Hd]; · rw [hset]; iexact Hd
      iexact Hx
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists _; iexact HO

end Cert.KernelIdeal.Mesh

end
-- ==== Proof.KernelIdeal.Handshake.lean ====
/-
  The entry handshake: its operations, how the kernel's conditional blocks compose, and the handshake's block.
-/
module

public import proofs.«01_k».proof.Proof.KernelIdeal.Ops

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## The neighbours' neighbours -/

/-- A device is what its neighbours' sends of these kinds target. -/
theorem tgt_zp0 : ∀ d, tgt 0 (zp d) = d := by decide
theorem tgt_zp5 : ∀ d, tgt 5 (zp d) = d := by decide
theorem tgt_right2 : ∀ d, tgt 2 (right d) = d := by decide
theorem tgt_left1 : ∀ d, tgt 1 (left d) = d := by decide

/-! ## The entry handshake's operations -/

/-- A unit paid to `n`'s barrier cell. -/
theorem wp_unit (K : GSem nD τ sig → ℕ) (d n : Dev nD) (i : Duty) (O : CellTallies nD τ sig ℕ)
    {nv : ℕ} (hnv : nv < nD) (hn : nv = n.val) {k' : ℕ} (hk : k' = 1)
    {α : Type} {Q : α → sProp 𝕄} {kk : PUnit → Prog (TpuEff nD τ sig (Elt F) Λ₀ .tc) α} :
    iprop(invs X K ∗ ow d (O + tallyAt (barCell n) 1 1) ∗ dutyTok ER (barCell n) 0 i ∗ barPay n i ∗ reached ER (barCell n) 0)
      ⊢ iprop((ow d O -∗ wpd d (kk ⟨⟩) Q)
          -∗ wpd d (.op (.semSignal (Dev.tc (⟨nv, hnv⟩ : Dev nD) : Thread nD τ) barS k') kk) Q) := by
  have hd : (⟨nv, hnv⟩ : Dev nD) = n := Fin.ext hn
  generalize (⟨nv, hnv⟩ : Dev nD) = n' at hd ⊢
  subst hd
  subst hk
  unfold ow
  iintro ⟨#HI, ⟨%W, HO⟩, Ht, Hp, #Hr⟩ Hk
  iapply (Rounds.wp_signal 𝒱₀ ER (rd X) (d : Thread nD τ) none (dst := (n' : Thread nD τ)) (κ := K (barCell n')) (d := i)
      (by rw [duties_bar]; exact Finset.mem_univ _) (amount_bar X n' 0 i) 1 O rfl) $$ [HO Ht Hp]
  · isplitr; · iapply (inv_bar X K n'); iexact HI
    isplitl [HO]; · iexact HO
    isplitl [Ht]; · iexact Ht
    isplitl [Hp]; · rw [payload_bar]; iexact Hp
    iexact Hr
  iintro HO
  iapply Hk
  iexists W; iexact HO

/-- The wait for the three units: what the three neighbours handed over. -/
theorem wp_units (K : GSem nD τ sig → ℕ) (d : Dev nD) {n : ℕ} {O : CellTallies nD τ sig ℕ} (hO : High n O) (hl : 1 < n)
    {k' : ℕ} (hk : k' = 3) {α : Type} {Q : α → sProp 𝕄} {kk : PUnit → Prog (TpuEff nD τ sig (Elt F) Λ₀ .tc) α} :
    iprop(invs X K ∗ levAts L lv ∗ cred (tallyAt (barCell d) 1 3) ∗ ow d O ∗ atPos ER (barCell d) 0 ∅ 0)
      ⊢ iprop(((ow d O ∗ atPos ER (barCell d) 1 ∅ 0 ∗ (pend 0 d 5 ∗ pend 5 d 5) ∗ pend 2 d 5 ∗ pend 1 d 5) -∗ wpd d (kk ⟨⟩) Q)
          -∗ wpd d (.op (.semWait barS k') kk) Q) := by
  subst hk
  unfold ow
  iintro ⟨#HI, #Hlev, Hc, ⟨%W, HO⟩, Hp⟩ Hk
  iapply (Rounds.wp_wait_rest_token 𝒱₀ ER (rd X) (d : Thread nD τ) none (κ := K (barCell d))
      (wpE_semWait_eq 𝒱₀ (d : Thread nD τ) none Set.univ) (Set.mem_univ _) 1 (O := O) (W := W) (R := 0) (m := 0) (T := ∅)
      (by rw [expect_bar X d])) $$ [Hc HO Hp]
  · isplitr; · iapply (inv_bar X K d); iexact HI
    isplitl [Hc]; · iexact Hc
    isplitl [HO]; · iexact HO
    isplitr; · iapply (mayWait d (.reg barS) hO hl (by decide)); iexact Hlev
    iexact Hp
  rw [rest_bar X d]
  iintro ⟨HO, Hp, #Hr', Hpay⟩
  iapply Hk
  isplitl [HO]; · iexists _; iexact HO
  isplitl [Hp]; · iexact Hp
  iexact Hpay

/-! ## Composition -/

/-- A program run for its result, then what follows. -/
theorem cps (d : Dev nD) {α : Type} {P : Prog (TpuEff nD τ sig (Elt F) Λ₀ .tc) α} {Pre : sProp 𝕄} {Post Φ : α → sProp 𝕄}
    (hP : Pre ⊢ wpd d P Post) : Pre ⊢ iprop((∀ a, Post a -∗ Φ a) -∗ wpd d P Φ) := by
  iintro H Hk
  iapply wp_wand $$ [H]
  · iapply hP; iexact H
  iexact Hk

/-- A conditional block whose condition is `R`. -/
theorem when_cps (d : Dev nD) {C R : Prop} [Decidable C] (hC : C ↔ R) {P : C → Prog (TpuEff nD τ sig (Elt F) Λ₀ .tc) PUnit}
    {Pre Post : sProp 𝕄} {Φ : PUnit → sProp 𝕄} (ht : ∀ h : C, R → (Pre ⊢ wpd d (P h) fun _ => Post)) (hf : ¬R → (Pre ⊢ Post)) :
    Pre ⊢ iprop((Post -∗ Φ ⟨⟩) -∗ wpd d (dite C P fun _ => .ret ⟨⟩) Φ) := by
  by_cases h : C
  · rw [dif_pos h]
    iintro H Hk
    iapply (cps d (ht h (hC.mp h))) $$ [H]
    · iexact H
    iintro %a
    iexact Hk
  · rw [dif_neg h]
    iintro H Hk
    rw [wpd, wp_ret]
    imodintro
    iapply Hk
    iapply (hf fun hR => h (hC.mpr hR))
    iexact H

/-! ## What the blocks pass on -/

/-- The entry handshake's ghost state, spent at the first step. -/
def start (d : Dev nD) (t : ℕ) : sProp 𝕄 :=
  if t = 0 then iprop(dutyTok ER (barCell (zp d)) 0 0 ∗ dutyTok ER (barCell (right d)) 0 1 ∗ dutyTok ER (barCell (left d)) 0 2
      ∗ reached ER (barCell (zp d)) 0 ∗ reached ER (barCell (right d)) 0 ∗ reached ER (barCell (left d)) 0
      ∗ atPos ER (barCell d) 0 ∅ 0 ∗ cred (tallyAt (barCell d) 1 3))
  else iprop(atPos ER (barCell d) 1 ∅ 0)

/-- The rights the handshake hands over: used at the first step, and at the second. -/
def heldZ (d : Dev nD) (t : ℕ) : sProp 𝕄 := if t = 0 then iprop(pend 0 d 5 ∗ pend 5 d 5) else iprop(emp)
def heldF (d : Dev nD) (t : ℕ) : sProp 𝕄 := if t = 1 then iprop(pend 1 d 5 ∗ pend 2 d 5) else iprop(emp)

/-- The rows the handshake hands away, before it, and after it. -/
def early (k : Fin 6) (d : Dev nD) (t : ℕ) : sProp 𝕄 := if t = 0 then bare k d (t + 5) else away k d (t + 5)
def mid (k : Fin 6) (d : Dev nD) (t : ℕ) : sProp 𝕄 := if t = 0 then away k d (t + 5) else bare k d (t + 5)

omit [FloatOps F] in
/-- Out of range the rows are at hand. -/
theorem away_out {k : Fin 6} {d : Dev nD} {B : ℕ} (h : ¬InR B) : (away k d B : sProp 𝕄) = bare k d B := if_neg h
omit [FloatOps F] in
/-- In range they are not. -/
theorem away_in {k : Fin 6} {d : Dev nD} {B : ℕ} (h : InR B) : (away k d B : sProp 𝕄) = iprop(emp) := if_pos h
omit [FloatOps F] in
/-- Out of range nothing is handed over. -/
theorem handed_out {k : Fin 6} {d : Dev nD} {B : ℕ} (h : ¬InR B) : (handed k d B : sProp 𝕄) = iprop(emp) := if_neg h

omit [FloatOps F] in
/-- The rows of a landing handed away: what remains is nothing where there is a block, the rows where there is none. -/
theorem hand (k : Fin 6) (d : Dev nD) (B : ℕ) : iprop(bare k d B ∗ rch k d B) ⊢ (iprop(handed k d B ∗ away k d B) : sProp 𝕄) := by
  unfold handed away rch
  split
  · iintro ⟨H, #Hr⟩
    isplitl [H]
    · isplitl [H]; · iexact H
      iexact Hr
    itrivial
  · iintro ⟨H, #Hr⟩
    isplitr; · itrivial
    iexact H

/-! ## The entry handshake -/

/-- What the handshake's block starts from. -/
def pre0 (d : Dev nD) (t : ℕ) (O : CellTallies nD τ sig ℕ) : sProp 𝕄 :=
  iprop(start d t ∗ ow d (O + barDue d t) ∗ (early 0 d t ∗ early 5 d t ∗ bare 1 d (t + 5) ∗ bare 2 d (t + 5))
    ∗ rch 0 d (t + 5) ∗ rch 5 d (t + 5) ∗ rch 1 d (t + 5) ∗ rch 2 d (t + 5))
/-- What the handshake's block leaves. -/
def post0 (d : Dev nD) (t : ℕ) (O : CellTallies nD τ sig ℕ) : sProp 𝕄 :=
  iprop(start d (t + 1) ∗ ow d O ∗ heldZ d t ∗ heldF d (t + 1) ∗ away 0 d (t + 5) ∗ away 5 d (t + 5) ∗ mid 1 d t ∗ mid 2 d t)

set_option maxHeartbeats 800000 in
/-- The handshake at step 0: three signals, each giving away rows that the neighbour may write, and the wait that receives the
same of the neighbours. -/
theorem handshake (K : GSem nD τ sig → ℕ) (d : Dev nD) {t : ℕ} (ht : t = 0) {O : CellTallies nD τ sig ℕ} (hO : High (t + 2) O)
    {n₁ n₂ n₃ k₁ k₂ k₃ k₄ : ℕ} {h₁ : n₁ < nD} {h₂ : n₂ < nD} {h₃ : n₃ < nD} (e₁ : n₁ = (zp d).val) (e₂ : n₂ = (right d).val) (e₃ : n₃ = (left d).val)
    (f₁ : k₁ = 1) (f₂ : k₂ = 1) (f₃ : k₃ = 1) (f₄ : k₄ = 3) :
    iprop((invs X K ∗ levAts L lv) ∗ pre0 d t O) ⊢ wpd (α := PUnit) d
      (.op (.semSignal (Dev.tc (⟨n₁, h₁⟩ : Dev nD) : Thread nD τ) barS k₁) fun _ =>
        .op (.semSignal (Dev.tc (⟨n₂, h₂⟩ : Dev nD) : Thread nD τ) barS k₂) fun _ =>
        .op (.semSignal (Dev.tc (⟨n₃, h₃⟩ : Dev nD) : Thread nD τ) barS k₃) fun _ => .op (.semWait barS k₄) fun _ => .ret ⟨⟩)
      (fun _ => post0 d t O) := by
  subst ht
  unfold pre0 post0 start heldZ heldF early mid barDue
  simp only [if_pos, if_neg (show ¬(0 + 1 = 0) by decide), if_pos (show 0 + 1 = 1 from rfl), ← add_assoc]
  iintro ⟨⟨#HI, #Hlev⟩, ⟨Htz, Htr, Htl, #Hrz, #Hrr, #Hrl, Hp, Hc⟩, HO, ⟨H0, H5, H1, H2⟩, #R0, #R5, #R1, #R2⟩
  ihave ⟨P0, A0⟩ := (hand 0 d 5) $$ [H0]; · isplitl [H0]; · iexact H0
                                            iexact R0
  ihave ⟨P5, A5⟩ := (hand 5 d 5) $$ [H5]; · isplitl [H5]; · iexact H5
                                            iexact R5
  ihave ⟨P1, A1⟩ := (hand 1 d 5) $$ [H1]; · isplitl [H1]; · iexact H1
                                            iexact R1
  ihave ⟨P2, A2⟩ := (hand 2 d 5) $$ [H2]; · isplitl [H2]; · iexact H2
                                            iexact R2
  iapply (wp_unit X K d (zp d) 0 _ h₁ e₁ f₁) $$ [HO Htz P0 P5]
  · isplitr; · iexact HI
    isplitl [HO]; · iexact HO
    isplitl [Htz]; · iexact Htz
    isplitl [P0 P5]
    · unfold barPay pend
      rw [if_pos rfl, tgt_zp0, tgt_zp5]
      isplitl [P0] <;> iassumption
    iexact Hrz
  iintro HO
  iapply (wp_unit X K d (right d) 1 _ h₂ e₂ f₂) $$ [HO Htr P2]
  · isplitr; · iexact HI
    isplitl [HO]; · iexact HO
    isplitl [Htr]; · iexact Htr
    isplitl [P2]
    · unfold barPay pend
      rw [if_neg (by decide), if_pos rfl, tgt_right2]
      iexact P2
    iexact Hrr
  iintro HO
  iapply (wp_unit X K d (left d) 2 _ h₃ e₃ f₃) $$ [HO Htl P1]
  · isplitr; · iexact HI
    isplitl [HO]; · iexact HO
    isplitl [Htl]; · iexact Htl
    isplitl [P1]
    · unfold barPay pend
      rw [if_neg (by decide), if_neg (by decide), tgt_left1]
      iexact P1
    iexact Hrl
  iintro HO
  iapply (wp_units X K d hO (by decide) f₄) $$ [Hc HO Hp]
  · iframe HI Hlev Hc HO Hp
  iintro ⟨HO, Hp, ⟨Q0, Q5⟩, Q2, Q1⟩
  rw [wpd, wp_ret]
  imodintro
  iframe Hp HO Q0 Q5 Q2 Q1 A0 A5 A1 A2

omit [FloatOps F] in
/-- At later steps the handshake's block does nothing. -/
theorem handshake_later (d : Dev nD) {t : ℕ} (ht : ¬t = 0) (O : CellTallies nD τ sig ℕ) : pre0 d t O ⊢ (post0 d t O : sProp 𝕄) := by
  unfold pre0 post0 start heldZ heldF early mid barDue
  simp only [if_neg ht, if_neg (show ¬(t + 1 = 0) by omega), if_neg (show ¬(t + 1 = 1) by omega), add_zero]
  iintro ⟨H, HO, ⟨H0, H5, H1, H2⟩, -⟩
  iframe H HO H0 H5 H1 H2

end Cert.KernelIdeal.Mesh

end
-- ==== Proof.KernelIdeal.Sends.lean ====
/-
  The two forms of send: a forward from the rows of a landing to the same rows of the target's scratch, and a send from the
  staging buffer of the first operand.
-/
module

public import proofs.«01_k».proof.Proof.KernelIdeal.Handshake

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## Whose rows a send covers -/

/-- The rows a send of kind `k` covers, on the sender as on the target. -/
abbrev out (k : Fin 6) (d : Dev nD) (B : ℕ) : Finset S5x512x2048.Idx := rows (lo k (tgt k d)) (len k) B
/-- That the send cell has reached block `B`'s round. -/
abbrev srch (k : Fin 6) (d : Dev nD) (B : ℕ) : sProp 𝕄 := reached ER (sendCell k d) (min (B - 5) 16)

/-- A forward passes on the rows of the device whose partial they hold. -/
theorem fwd_own : ∀ (k : Fin 6) (d : Dev nD), ¬(k = 0 ∨ k = 5) → own k (tgt k d) = own (fwd k) d := by decide
/-- A send from the staging buffer passes on the device's own partial. -/
theorem out_own : ∀ (k : Fin 6) (d : Dev nD), k = 0 ∨ k = 5 → own k (tgt k d) = d := by decide
/-- The rows of a forward lie in the landing it forwards, as bounds. -/
theorem out_sub_aux : ∀ (k : Fin 6) (d : Dev nD), ¬(k = 0 ∨ k = 5) →
    lo (fwd k) d ≤ lo k (tgt k d) ∧ lo k (tgt k d) + len k ≤ lo (fwd k) d + len (fwd k) := by decide
/-- The rows of a forward lie in the landing it forwards. -/
theorem out_sub {k : Fin 6} (d : Dev nD) (B : ℕ) (hk : ¬(k = 0 ∨ k = 5)) : out k d B ⊆ rg (fwd k) d B := fun i hi => by
  have := out_sub_aux k d hk
  rw [mem_rows] at hi ⊢
  omega
/-- The full forwards forward the partner's landing whole, as bounds. -/
theorem out_full_aux : ∀ (k : Fin 6) (d : Dev nD), k = 1 ∨ k = 2 → lo k (tgt k d) = lo 0 d ∧ len k = len 0 := by decide
/-- The full forwards forward the partner's landing whole. -/
theorem out_full {k : Fin 6} (d : Dev nD) (B : ℕ) (hk : k = 1 ∨ k = 2) : out k d B = rg 0 d B := by
  unfold out rg; rw [(out_full_aux k d hk).1, (out_full_aux k d hk).2]

/-! ## Forwards -/

/-- What a forward's source reads. -/
theorem fwd_read (k : Fin 6) (d : Dev nD) (B : ℕ) (hk : ¬(k = 0 ∨ k = 5)) (o : Fin 3 → ℕ) (o' sz : Fin 2 → ℕ) (h h')
    (ho : o = ![B % 5, 0, 0]) (ho' : o' = ![lo k (tgt k d), 0]) (hs : sz = ![len k, 2048]) (j : (⟨2, sz⟩ : Shape).Idx) :
    (slab o o' sz h h').view.read (Elt F) (rval X (fwd k) d B) j
      = blkOf X (own k (tgt k d)) (B - 5) (lo k (tgt k d) + (j 0).val) ⟨(j 1).val, (j 1).isLt.trans_eq (congrFun hs 1)⟩ := by
  obtain ⟨h0, h1, h2⟩ := (slab_emb B _ _ o o' sz h h' ho ho' hs j _).mp rfl
  refine Eq.trans (b := rval X (fwd k) d B ((slab o o' sz h h').view.emb j)) rfl ?_
  unfold rval
  rw [h1, fwd_own k d hk]
  exact congrArg _ (Fin.ext h2)

/-- A forward of block `B`. -/
theorem wp_fwd (K : GSem nD τ sig → ℕ) (k : Fin 6) (hk : ¬(k = 0 ∨ k = 5)) (d : Dev nD) {B : ℕ} (hB : InR B) (O : CellTallies nD τ sig ℕ)
    {nv : ℕ} (hnv : nv < nD) (hn : nv = (tgt k d).val) {qs qr : DmaSem sig} (hqs : qs = sendS k) (hqr : qr = recvS B k)
    (o : Fin 3 → ℕ) (o' sz : Fin 2 → ℕ) (h h') (ho : o = ![B % 5, 0, 0]) (ho' : o' = ![lo k (tgt k d), 0]) (hs : sz = ![len k, 2048])
    {hsc : (slab o o' sz h h' : Memref sig (Dev.tc (⟨nv, hnv⟩ : Dev nD) : Thread nD τ).2.kind .vmem ⟨2, sz⟩ .f32).view.ref.isScScratch = false}
    {hsrc : (slab o o' sz h h').view.WordExact} {hdst : (slab o o' sz h h').view.WordExact}
    {hsem : DmaTarget.Typed .vmem (.dma qr) (.remote (Dev.tc (⟨nv, hnv⟩ : Dev nD) : Thread nD τ) (slab o o' sz h h') (.dma qs) hsc)}
    {α : Type} {Q : α → sProp 𝕄} {kk : PUnit → Prog (TpuEff nD τ sig (Elt F) Λ₀ .tc) α} :
    iprop(invs X K ∗ (aloc d ↦[out k d B]{shr k} rval X (fwd k) d B) ∗ pend k d B ∗ extra k (tgt k d) B
        ∗ ow d (O + due k d B) ∗ tok k d B ∗ srch k d B)
      ⊢ iprop(((scrd k d B ∗ ow d O) -∗ wpd d (kk ⟨⟩) Q)
          -∗ wpd d (.op (.enqueueDma (slab o o' sz h h') (.remote (Dev.tc (⟨nv, hnv⟩ : Dev nD) : Thread nD τ) (slab o o' sz h h') (.dma qs) hsc) (.dma qr)
              hsrc hdst hsem) kk) Q) := by
  have hset := slab_set B _ _ o o' sz h h' ho ho' hs
  have hpay : ((slab o o' sz h h').view.loc (d : Thread nD τ) ↦[(slab o o' sz h h').view.set]{shr k} rval X (fwd k) d B : sProp 𝕄)
      ⊢ sendPay X k d (B - 5) := by
    rw [hset]; unfold sendPay; rw [if_neg hk, show B - 5 + 5 = B by omega]
  have key := wp_sendX X K k d hB O hnv hn hqs hqr o o' sz h h' ho ho' hs (hsc := hsc) (hsrc := hsrc) (hdst := hdst) (hsem := hsem)
    (shr k) (rval X (fwd k) d B) hpay (fwd_read X k d B hk o o' sz h h' ho ho' hs) (Q := Q) (kk := kk)
  unfold srch
  rw [show min (B - 5) 16 = B - 5 by omega]
  rw [hset] at key
  exact key

/-! ## Sends from the staging buffer -/

/-- A half share of the rows of the staging buffer that the send of kind `k` reads. -/
def piece (k : Fin 6) (d : Dev nD) (t : ℕ) : sProp 𝕄 :=
  iprop(∃ f, (stg t).view.loc (d : Thread nD τ) ↦[srows t (lo k (tgt k d)) (len k)]{fullShare.left} f)

/-- A band of whole rows of a block, as a rectangle. -/
theorem rows_unit (l n : ℕ) (o sz : Fin 2 → ℕ) (h) (ho : o = ![l, 0]) (hs : sz = ![n, 2048]) :
    (Rect.unit (s := S512x2048) o sz h).set = brows l n := by
  subst ho hs
  ext i
  rw [Rect.mem_set_unit]
  simp only [brows, Finset.mem_filter, Finset.mem_univ, true_and]
  constructor
  · exact fun H => H 0
  · intro H a
    match a with
    | ⟨0, _⟩ => exact H
    | ⟨1, _⟩ => exact ⟨Nat.zero_le _, by have := (i 1).isLt; show (i 1).val < 0 + 2048; have h2 : (i 1).val < 2048 := this; omega⟩

/-- A band of whole rows of a staging buffer, as a slice. -/
theorem stage_set (m : Memref sig .tc .vmem S512x2048 .f32) (l n : ℕ) (o sz : Fin 2 → ℕ) (h) (ho : o = ![l, 0]) (hs : sz = ![n, 2048]) :
    (m.slice (Rect.unit (s := S512x2048) o sz h) (fun _ => rfl)).view.set = m.view.setOn (brows l n) := by
  refine (View.set_slice m.view _).trans ?_
  rw [rows_unit l n o sz h ho hs]; rfl

/-- A send of block `t` from the staging buffer at step `t`. -/
theorem wp_stage (K : GSem nD τ sig → ℕ) (k : Fin 6) (hk : k = 0 ∨ k = 5) (d : Dev nD) {t : ℕ} (hB : InR (t + 5)) (O : CellTallies nD τ sig ℕ)
    {nv : ℕ} (hnv : nv < nD) (hn : nv = (tgt k d).val) {qs qr : DmaSem sig} (hqs : qs = sendS k) (hqr : qr = recvS (t + 5) k)
    (o : Fin 3 → ℕ) (o' sz : Fin 2 → ℕ) (h h') (ho : o = ![(t + 5) % 5, 0, 0]) (ho' : o' = ![lo k (tgt k d), 0]) (hs : sz = ![len k, 2048])
    (m : Memref sig .tc .vmem S512x2048 .f32) (hm : m = stg t)
    (fs : Buf (Elt F) (m.view.loc (d : Thread nD τ))) (hfs : ∀ i : S512x2048.Idx, m.view.read (Elt F) fs i = blkOf X d t (i 0).val (i 1))
    {hsc : (slab o o' sz h h' : Memref sig (Dev.tc (⟨nv, hnv⟩ : Dev nD) : Thread nD τ).2.kind .vmem ⟨2, sz⟩ .f32).view.ref.isScScratch = false}
    {hsrc : (m.slice (Rect.unit (s := S512x2048) o' sz h') (fun _ => rfl)).view.WordExact} {hdst : (slab o o' sz h h').view.WordExact}
    {hsem : DmaTarget.Typed .vmem (.dma qr) (.remote (Dev.tc (⟨nv, hnv⟩ : Dev nD) : Thread nD τ) (slab o o' sz h h') (.dma qs) hsc)}
    {α : Type} {Q : α → sProp 𝕄} {kk : PUnit → Prog (TpuEff nD τ sig (Elt F) Λ₀ .tc) α} :
    iprop(invs X K ∗ (m.view.loc (d : Thread nD τ) ↦[m.view.setOn (brows (lo k (tgt k d)) (len k))]{fullShare.left} fs)
        ∗ pend k d (t + 5) ∗ extra k (tgt k d) (t + 5) ∗ ow d (O + due k d (t + 5)) ∗ tok k d (t + 5) ∗ srch k d (t + 5))
      ⊢ iprop(((scrd k d (t + 5) ∗ ow d O) -∗ wpd d (kk ⟨⟩) Q)
          -∗ wpd d (.op (.enqueueDma (m.slice (Rect.unit (s := S512x2048) o' sz h') (fun _ => rfl))
              (.remote (Dev.tc (⟨nv, hnv⟩ : Dev nD) : Thread nD τ) (slab o o' sz h h') (.dma qs) hsc) (.dma qr)
              hsrc hdst hsem) kk) Q) := by
  have hset := stage_set m _ _ o' sz h' ho' hs
  have hpay : ((m.slice (Rect.unit (s := S512x2048) o' sz h') (fun _ => rfl)).view.loc (d : Thread nD τ)
      ↦[(m.slice (Rect.unit (s := S512x2048) o' sz h') (fun _ => rfl)).view.set]{fullShare.left} fs : sProp 𝕄)
      ⊢ sendPay X k d (t + 5 - 5) := by
    rw [hset]; unfold sendPay; rw [if_pos hk, Nat.add_sub_cancel]
    subst hm
    iintro H; iexists fs; iexact H
  have key := wp_sendX X K k d hB O hnv hn hqs hqr o o' sz h h' ho ho' hs (hsc := hsc) (hsrc := hsrc) (hdst := hdst) (hsem := hsem)
    fullShare.left fs hpay (fun j => by
      refine Eq.trans (b := m.view.read (Elt F) fs ((Rect.unit (s := S512x2048) o' sz h').emb j)) rfl ((hfs _).trans ?_)
      have e0 := emb2 o' sz h' j 0
      have e1 := emb2 o' sz h' j 1
      rw [e0, out_own k d hk, Nat.add_sub_cancel]
      subst ho'
      exact congrArg _ (Fin.ext (e1.trans (Nat.zero_add _)))) (Q := Q) (kk := kk)
  unfold srch
  rw [show min (t + 5 - 5) 16 = t + 5 - 5 by omega]
  rw [hset] at key
  exact key

end Cert.KernelIdeal.Mesh

end
-- ==== Proof.KernelIdeal.Waits.lean ====
/-
  The blocks of a step that wait on receive cells ahead of the sends, and those that wait on send cells at its end.
-/
module

public import proofs.«01_k».proof.Proof.KernelIdeal.Sends

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## The wait on the partner's landing -/

/-- What the wait on the partner's landing starts from. -/
def preZ (d : Dev nD) (t : ℕ) (O : CellTallies nD τ sig ℕ) : sProp 𝕄 :=
  iprop(crd 0 d (t + 4) ∗ ow d O ∗ posn 0 d (t + 4) ∗ away 0 d (t + 4) ∗ heldZ d t)
/-- What it leaves: the landing's rows with their contents, and the right to send the partner the next block. -/
def postZ (d : Dev nD) (t : ℕ) (O : CellTallies nD τ sig ℕ) : sProp 𝕄 :=
  iprop(ow d O ∗ posn 0 d (t + 4 + 5) ∗ ownv X 0 d (t + 4) ∗ pend 0 d (t + 5) ∗ pend 5 d (t + 5))

omit [FloatOps F] in
/-- What comes with a landing, kind by kind. -/
theorem extra_zero (d : Dev nD) (B : ℕ) : (extra 0 d B : sProp 𝕄) = iprop(pend 0 d (B + 1) ∗ pend 5 d (B + 1)) := if_pos rfl
omit [FloatOps F] in
theorem extra_one (d : Dev nD) (B : ℕ) : (extra 1 d B : sProp 𝕄) = iprop(pend 2 d (B + 1) ∗ pend 4 d B) := by
  unfold extra; rw [if_neg (by decide), if_pos rfl]
omit [FloatOps F] in
theorem extra_two (d : Dev nD) (B : ℕ) : (extra 2 d B : sProp 𝕄) = iprop(pend 1 d (B + 1) ∗ pend 3 d B) := by
  unfold extra; rw [if_neg (by decide), if_neg (by decide), if_pos rfl]
omit [FloatOps F] in
theorem extra_rest {k : Fin 6} (h : 3 ≤ k) (d : Dev nD) (B : ℕ) : (extra k d B : sProp 𝕄) = iprop(emp) := by
  unfold extra; rw [if_neg (by omega), if_neg (by omega), if_neg (by omega)]
omit [FloatOps F] in
/-- In range the rows hold what landed. -/
theorem own_in {k : Fin 6} {d : Dev nD} {B : ℕ} (h : InR B) : (ownv X k d B : sProp 𝕄) = landed X k d B := if_pos h
omit [FloatOps F] in
/-- Out of range their contents are not known. -/
theorem own_out {k : Fin 6} {d : Dev nD} {B : ℕ} (h : ¬InR B) : (ownv X k d B : sProp 𝕄) = bare k d B := if_neg h

/-- The wait on the partner's landing of block `t + 4`. -/
theorem z_wait (K : GSem nD τ sig → ℕ) (d : Dev nD) {t : ℕ} (h : InR (t + 4)) {O : CellTallies nD τ sig ℕ} (hO : High (t + 2) O)
    {q : DmaSem sig} (hq : q = recvS (t + 4) 0) {sp sp' : Space} {s s' : Shape} {e e' : EltTy} {src : Memref sig .tc sp s e}
    {dst : Memref sig .tc sp' s' e'} {hsrc : src.view.WordExact} {hdst : dst.view.WordExact} (hc : dst.view.dmaCredit = amt 0) :
    iprop((invs X K ∗ levAts L lv) ∗ preZ d t O) ⊢ wpd (α := PUnit) d (.op (.waitDma2 q src dst hsrc hdst) fun _ => .ret ⟨⟩) (fun _ => postZ X d t O) := by
  unfold preZ postZ
  rw [own_in X h]
  iintro ⟨⟨#HI, #Hlev⟩, Hc, HO, Hp, -, -⟩
  iapply (wp_recv X K 0 d h hO (lvl_wait 0 h) hq hc) $$ [Hc HO Hp]
  · iframe HI Hlev Hc HO Hp
  iintro ⟨HO, Hp, Hpay⟩
  unfold recvPay; rw [extra_zero]
  icases Hpay with ⟨Hl, H0, H5⟩
  rw [wpd, wp_ret]; imodintro
  iframe HO Hp Hl H0 H5

omit [FloatOps F] in
/-- Out of range there is no wait. -/
theorem z_skip (d : Dev nD) {t : ℕ} (ht : t < 19) (h : ¬InR (t + 4)) (O : CellTallies nD τ sig ℕ) : preZ d t O ⊢ (postZ X d t O : sProp 𝕄) := by
  unfold preZ postZ
  rw [own_out X h, away_out h, posn_next h (by omega)]
  unfold heldZ pend
  by_cases h0 : t = 0
  · subst h0
    rw [if_pos rfl]
    iintro ⟨-, HO, Hp, Hb, H0, H5⟩
    iframe HO Hp Hb H0 H5
  · rw [if_neg h0, handed_out (show ¬InR (t + 5) by omega), handed_out (show ¬InR (t + 5) by omega)]
    iintro ⟨-, HO, Hp, Hb, -⟩
    iframe HO Hp Hb
    isplitr <;> itrivial

/-! ## The waits on the ring neighbours' landings -/

/-- What the waits on the ring neighbours' landings start from. -/
def preF (d : Dev nD) (t : ℕ) (O : CellTallies nD τ sig ℕ) : sProp 𝕄 :=
  iprop((crd 1 d (t + 3) ∗ crd 2 d (t + 3)) ∗ ow d O ∗ (posn 1 d (t + 3) ∗ posn 2 d (t + 3)) ∗ (away 1 d (t + 3) ∗ away 2 d (t + 3)) ∗ heldF d t)
/-- What they leave. -/
def postF (d : Dev nD) (t : ℕ) (O : CellTallies nD τ sig ℕ) : sProp 𝕄 :=
  iprop(ow d O ∗ (posn 1 d (t + 3 + 5) ∗ posn 2 d (t + 3 + 5)) ∗ (ownv X 1 d (t + 3) ∗ ownv X 2 d (t + 3))
    ∗ pend 1 d (t + 4) ∗ pend 2 d (t + 4) ∗ pend 3 d (t + 3) ∗ pend 4 d (t + 3))

/-- The waits on the two landings of block `t + 3` from the ring neighbours. -/
theorem f_wait (K : GSem nD τ sig → ℕ) (d : Dev nD) {t : ℕ} (h : InR (t + 3)) {O : CellTallies nD τ sig ℕ} (hO : High (t + 2) O)
    {q₁ q₂ : DmaSem sig} (hq₁ : q₁ = recvS (t + 3) 1) (hq₂ : q₂ = recvS (t + 3) 2)
    {sp₁ sp₁' sp₂ sp₂' : Space} {s₁ s₁' s₂ s₂' : Shape} {e₁ e₁' e₂ e₂' : EltTy}
    {src₁ : Memref sig .tc sp₁ s₁ e₁} {dst₁ : Memref sig .tc sp₁' s₁' e₁'} {hsrc₁ : src₁.view.WordExact} {hdst₁ : dst₁.view.WordExact}
    {src₂ : Memref sig .tc sp₂ s₂ e₂} {dst₂ : Memref sig .tc sp₂' s₂' e₂'} {hsrc₂ : src₂.view.WordExact} {hdst₂ : dst₂.view.WordExact}
    (hc₁ : dst₁.view.dmaCredit = amt 1) (hc₂ : dst₂.view.dmaCredit = amt 2) :
    iprop((invs X K ∗ levAts L lv) ∗ preF d t O)
      ⊢ wpd (α := PUnit) d (.op (.waitDma2 q₁ src₁ dst₁ hsrc₁ hdst₁) fun _ => .op (.waitDma2 q₂ src₂ dst₂ hsrc₂ hdst₂) fun _ => .ret ⟨⟩)
        (fun _ => postF X d t O) := by
  unfold preF postF
  rw [own_in X h, own_in X h]
  iintro ⟨⟨#HI, #Hlev⟩, ⟨Hc1, Hc2⟩, HO, ⟨Hp1, Hp2⟩, -, -⟩
  iapply (wp_recv X K 1 d h hO (lvl_wait 1 h) hq₁ hc₁) $$ [Hc1 HO Hp1]
  · iframe HI Hlev Hc1 HO Hp1
  iintro ⟨HO, Hp1, Hpay1⟩
  iapply (wp_recv X K 2 d h hO (lvl_wait 2 h) hq₂ hc₂) $$ [Hc2 HO Hp2]
  · iframe HI Hlev Hc2 HO Hp2
  iintro ⟨HO, Hp2, Hpay2⟩
  unfold recvPay; rw [extra_one, extra_two]
  icases Hpay1 with ⟨L1, H2, H4⟩
  icases Hpay2 with ⟨L2, H1, H3⟩
  rw [wpd, wp_ret]; imodintro
  iframe HO Hp1 Hp2 L1 L2 H1 H2 H3 H4

omit [FloatOps F] in
/-- Out of range there is no wait. -/
theorem f_skip (d : Dev nD) {t : ℕ} (ht : t < 19) (h : ¬InR (t + 3)) (O : CellTallies nD τ sig ℕ) : preF d t O ⊢ (postF X d t O : sProp 𝕄) := by
  unfold preF postF
  rw [own_out X h, away_out h, own_out X h, away_out h, posn_next h (by omega), posn_next h (by omega)]
  unfold heldF pend
  rw [handed_out h, handed_out h]
  by_cases h0 : t = 1
  · subst h0
    rw [if_pos rfl]
    iintro ⟨-, HO, ⟨Hp1, Hp2⟩, ⟨B1, B2⟩, H1, H2⟩
    iframe HO Hp1 Hp2 B1 B2 H1 H2
    isplitr <;> itrivial
  · rw [if_neg h0, handed_out (show ¬InR (t + 4) by omega), handed_out (show ¬InR (t + 4) by omega)]
    iintro ⟨-, HO, ⟨Hp1, Hp2⟩, ⟨B1, B2⟩, -⟩
    iframe HO Hp1 Hp2 B1 B2
    isplitr; · itrivial
    isplitr; · itrivial
    isplitr <;> itrivial

/-! ## The waits on the sends of a step -/

/-- A piece of the staging buffer, lent while its send is in flight. -/
def lent (k : Fin 6) (d : Dev nD) (t : ℕ) : sProp 𝕄 := if InR (t + 5) then iprop(emp) else piece k d t

/-- The rows of a landing not lent to its forward of kind `k`, or all of them where there is none. -/
def kept (k : Fin 6) (d : Dev nD) (B : ℕ) : sProp 𝕄 :=
  if InR B then iprop(aloc d ↦[rg (fwd k) d B \ out k d B]{fullShare} rval X (fwd k) d B) else bare (fwd k) d B

/-- What the waits on two sends start from. -/
def preS (k k' : Fin 6) (d : Dev nD) (B : ℕ) (O : CellTallies nD τ sig ℕ) : sProp 𝕄 :=
  iprop((scrd k d B ∗ scrd k' d B) ∗ ow d O ∗ (spos k d B ∗ spos k' d B))
/-- What they leave: the sources back. -/
def postS (k k' : Fin 6) (d : Dev nD) (B : ℕ) (O : CellTallies nD τ sig ℕ) : sProp 𝕄 :=
  iprop(ow d O ∗ (spos k d (B + 1) ∗ spos k' d (B + 1)) ∗ if InR B then iprop(sendPay X k d (B - 5) ∗ sendPay X k' d (B - 5)) else iprop(emp))

/-- The waits on the sends of kinds `k` and `k'` of block `B`. -/
theorem s_wait (K : GSem nD τ sig → ℕ) (k k' : Fin 6) (d : Dev nD) {B : ℕ} (h : InR B) {n : ℕ} {O : CellTallies nD τ sig ℕ} (hO : High n O) (hn : 0 < n)
    {q₁ q₂ : DmaSem sig} (hq₁ : q₁ = sendS k) (hq₂ : q₂ = sendS k')
    {sp₁ sp₁' sp₂ sp₂' : Space} {s₁ s₁' s₂ s₂' : Shape} {e₁ e₁' e₂ e₂' : EltTy}
    {src₁ : Memref sig .tc sp₁ s₁ e₁} {dst₁ : Memref sig .tc sp₁' s₁' e₁'} {hsrc₁ : src₁.view.WordExact} {hdst₁ : dst₁.view.WordExact}
    {src₂ : Memref sig .tc sp₂ s₂ e₂} {dst₂ : Memref sig .tc sp₂' s₂' e₂'} {hsrc₂ : src₂.view.WordExact} {hdst₂ : dst₂.view.WordExact}
    (hc₁ : dst₁.view.dmaCredit = amt k) (hc₂ : dst₂.view.dmaCredit = amt k') :
    iprop((invs X K ∗ levAts L lv) ∗ preS k k' d B O)
      ⊢ wpd (α := PUnit) d (.op (.waitDma2 q₁ src₁ dst₁ hsrc₁ hdst₁) fun _ => .op (.waitDma2 q₂ src₂ dst₂ hsrc₂ hdst₂) fun _ => .ret ⟨⟩)
        (fun _ => postS X k k' d B O) := by
  unfold preS postS
  rw [if_pos h]
  iintro ⟨⟨#HI, #Hlev⟩, ⟨Hc1, Hc2⟩, HO, ⟨Hp1, Hp2⟩⟩
  iapply (wp_sent X K k d h hO hn hq₁ hc₁) $$ [Hc1 HO Hp1]
  · iframe HI Hlev Hc1 HO Hp1
  iintro ⟨HO, Hp1, P1⟩
  iapply (wp_sent X K k' d h hO hn hq₂ hc₂) $$ [Hc2 HO Hp2]
  · iframe HI Hlev Hc2 HO Hp2
  iintro ⟨HO, Hp2, P2⟩
  rw [wpd, wp_ret]; imodintro
  iframe HO Hp1 Hp2 P1 P2

omit [FloatOps F] in
/-- Out of range there is no wait. -/
theorem s_skip (k k' : Fin 6) (d : Dev nD) {B : ℕ} (h : ¬InR B) (O : CellTallies nD τ sig ℕ) : preS k k' d B O ⊢ (postS X k k' d B O : sProp 𝕄) := by
  unfold preS postS
  rw [if_neg h, spos_next h, spos_next h]
  iintro ⟨-, HO, Hp1, Hp2⟩
  iframe HO Hp1 Hp2

/-! ## What the sends return -/

omit [FloatOps F] in
/-- After the waits the two lent pieces of the staging buffer are back. -/
theorem back_stage (d : Dev nD) (t : ℕ) :
    iprop((lent 0 d t ∗ lent 5 d t) ∗ if InR (t + 5) then iprop(sendPay X 0 d (t + 5 - 5) ∗ sendPay X 5 d (t + 5 - 5)) else iprop(emp))
      ⊢ (iprop(piece 0 d t ∗ piece 5 d t) : sProp 𝕄) := by
  unfold lent
  rw [Nat.add_sub_cancel]
  split
  · unfold sendPay piece
    rw [if_pos (by decide), if_pos (by decide)]
    iintro ⟨-, H0, H5⟩
    isplitl [H0]; · iexact H0
    iexact H5
  · iintro ⟨⟨H0, H5⟩, -⟩
    iframe H0 H5

omit [FloatOps F] in
/-- After the waits on the full forwards the partner's landing is whole again. -/
theorem back_full (d : Dev nD) (B : ℕ) :
    iprop(away 0 d B ∗ if InR B then iprop(sendPay X 1 d (B - 5) ∗ sendPay X 2 d (B - 5)) else iprop(emp)) ⊢ (ownv X 0 d B : sProp 𝕄) := by
  unfold away ownv
  split
  · rename_i h
    unfold sendPay
    rw [if_neg (by decide), if_neg (by decide), show B - 5 + 5 = B by omega]
    unfold landed
    have e1 := out_full (k := 1) d B (Or.inl rfl)
    have e2 := out_full (k := 2) d B (Or.inr rfl)
    unfold out at e1 e2
    rw [e1, e2]
    iintro ⟨-, H1, H2⟩
    iapply (pointsTo_share (q := fullShare) (PosShare.mem_left_op_right fullShare)).2
    isplitl [H1]; · iexact H1
    iexact H2
  · iintro ⟨H, -⟩
    iexact H

omit [FloatOps F] in
/-- The rows lent to a half forward, with those kept, are the landing again. -/
theorem back_half (k : Fin 6) (hk : ¬(k = 0 ∨ k = 5)) (hs : shr k = fullShare) (d : Dev nD) (B : ℕ) (h : InR B) :
    iprop(kept X k d B ∗ sendPay X k d (B - 5)) ⊢ (ownv X (fwd k) d B : sProp 𝕄) := by
  unfold kept ownv sendPay landed
  rw [if_pos h, if_pos h, if_neg hk, hs, show B - 5 + 5 = B by omega]
  iintro ⟨H1, H2⟩
  iapply (pointsTo_split_subset (out_sub d B hk)).2
  isplitl [H2]; · iexact H2
  iexact H1

omit [FloatOps F] in
/-- After the waits on the half forwards the neighbours' landings are whole again. -/
theorem back_halves (d : Dev nD) (B : ℕ) :
    iprop((kept X 3 d B ∗ kept X 4 d B) ∗ if InR B then iprop(sendPay X 3 d (B - 5) ∗ sendPay X 4 d (B - 5)) else iprop(emp))
      ⊢ (iprop(ownv X 1 d B ∗ ownv X 2 d B) : sProp 𝕄) := by
  by_cases h : InR B
  · rw [if_pos h]
    iintro ⟨⟨H3, H4⟩, P3, P4⟩
    isplitl [H3 P3]
    · iapply (back_half X 3 (by decide) rfl d B h)
      isplitl [H3]; · iexact H3
      iexact P3
    · iapply (back_half X 4 (by decide) rfl d B h)
      isplitl [H4]; · iexact H4
      iexact P4
  · rw [if_neg h]
    unfold kept ownv
    rw [if_neg h, if_neg h, if_neg h, if_neg h]
    iintro ⟨⟨H3, H4⟩, -⟩
    isplitl [H3]; · iexact H3
    iexact H4

end Cert.KernelIdeal.Mesh

end
-- ==== Proof.KernelIdeal.Forwards.lean ====
/-
  The blocks of a step that send: the partner's landings from the staging buffer, the two full forwards, the two half ones.
-/
module

public import proofs.«01_k».proof.Proof.KernelIdeal.Waits

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-- Who the targets of a device send to. -/
theorem tgt_t00 : ∀ d, tgt 0 (tgt 0 d) = d := by decide
theorem tgt_t05 : ∀ d, tgt 5 (tgt 0 d) = d := by decide
theorem tgt_t12 : ∀ d, tgt 2 (tgt 1 d) = d := by decide
theorem tgt_t14 : ∀ d, tgt 4 (tgt 1 d) = d := by decide
theorem tgt_t21 : ∀ d, tgt 1 (tgt 2 d) = d := by decide
theorem tgt_t23 : ∀ d, tgt 3 (tgt 2 d) = d := by decide

omit [FloatOps F] in
/-- Out of range there is no credit. -/
theorem scrd_out {k : Fin 6} {d : Dev nD} {B : ℕ} (h : ¬InR B) : (scrd k d B : sProp 𝕄) = iprop(emp) := if_neg h
/-- Out of range nothing is owed. -/
theorem due_out {k : Fin 6} {d : Dev nD} {B : ℕ} (h : ¬InR B) : due k d B = 0 := if_neg h

/-! ## The sends from the staging buffer -/

/-- A half share of the rows of `m` that the send of kind `k` reads, at contents `f`. -/
abbrev half (m : Memref sig .tc .vmem S512x2048 .f32) (k : Fin 6) (d : Dev nD) (f : Buf (Elt F) (m.view.loc (d : Thread nD τ))) : sProp 𝕄 :=
  m.view.loc (d : Thread nD τ) ↦[m.view.setOn (brows (lo k (tgt k d)) (len k))]{fullShare.left} f

/-- What the sends from the staging buffer start from. -/
def preT (d : Dev nD) (t : ℕ) (O : CellTallies nD τ sig ℕ) (m : Memref sig .tc .vmem S512x2048 .f32)
    (f : Buf (Elt F) (m.view.loc (d : Thread nD τ))) : sProp 𝕄 :=
  iprop((half m 0 d f ∗ half m 5 d f) ∗ (pend 0 d (t + 5) ∗ pend 5 d (t + 5)) ∗ (bare 0 d (t + 6) ∗ bare 5 d (t + 6))
    ∗ (rch 0 d (t + 6) ∗ rch 5 d (t + 6)) ∗ ow d (O + due 5 d (t + 5) + due 0 d (t + 5)) ∗ (tok 0 d (t + 5) ∗ tok 5 d (t + 5))
    ∗ srch 0 d (t + 5) ∗ srch 5 d (t + 5))
/-- What they leave. -/
def postT (d : Dev nD) (t : ℕ) (O : CellTallies nD τ sig ℕ) : sProp 𝕄 :=
  iprop((lent 0 d t ∗ lent 5 d t) ∗ (away 0 d (t + 6) ∗ away 5 d (t + 6)) ∗ ow d O ∗ scrd 0 d (t + 5) ∗ scrd 5 d (t + 5))

/-- The two sends of the partner's rows of block `t + 5` from the staging buffer. -/
theorem t_send (K : GSem nD τ sig → ℕ) (d : Dev nD) {t : ℕ} (h : InR (t + 5)) (O : CellTallies nD τ sig ℕ)
    (m : Memref sig .tc .vmem S512x2048 .f32) (hm : m = stg t)
    (f : Buf (Elt F) (m.view.loc (d : Thread nD τ))) (hf : ∀ i : S512x2048.Idx, m.view.read (Elt F) f i = blkOf X d t (i 0).val (i 1))
    {n₁ n₂ : ℕ} {hn₁ : n₁ < nD} {hn₂ : n₂ < nD} (e₁ : n₁ = (tgt 0 d).val) (e₂ : n₂ = (tgt 5 d).val)
    {qs₁ qr₁ qs₂ qr₂ : DmaSem sig} (s₁ : qs₁ = sendS 0) (r₁ : qr₁ = recvS (t + 5) 0) (s₂ : qs₂ = sendS 5) (r₂ : qr₂ = recvS (t + 5) 5)
    {o : Fin 3 → ℕ} {o₁ z₁ o₂ z₂ : Fin 2 → ℕ} {h₀ h₁' h₂'} (ho : o = ![(t + 5) % 5, 0, 0])
    (ho₁ : o₁ = ![lo 0 (tgt 0 d), 0]) (hz₁ : z₁ = ![len 0, 2048]) (ho₂ : o₂ = ![lo 5 (tgt 5 d), 0]) (hz₂ : z₂ = ![len 5, 2048])
    {hsc₁ : (slab o o₁ z₁ h₀ h₁' : Memref sig (Dev.tc (⟨n₁, hn₁⟩ : Dev nD) : Thread nD τ).2.kind .vmem ⟨2, z₁⟩ .f32).view.ref.isScScratch = false}
    {hsc₂ : (slab o o₂ z₂ h₀ h₂' : Memref sig (Dev.tc (⟨n₂, hn₂⟩ : Dev nD) : Thread nD τ).2.kind .vmem ⟨2, z₂⟩ .f32).view.ref.isScScratch = false}
    {w₁ : (m.slice (Rect.unit (s := S512x2048) o₁ z₁ h₁') (fun _ => rfl)).view.WordExact} {w₁' : (slab o o₁ z₁ h₀ h₁').view.WordExact}
    {w₂ : (m.slice (Rect.unit (s := S512x2048) o₂ z₂ h₂') (fun _ => rfl)).view.WordExact} {w₂' : (slab o o₂ z₂ h₀ h₂').view.WordExact}
    {y₁ : DmaTarget.Typed .vmem (.dma qr₁) (.remote (Dev.tc (⟨n₁, hn₁⟩ : Dev nD) : Thread nD τ) (slab o o₁ z₁ h₀ h₁') (.dma qs₁) hsc₁)}
    {y₂ : DmaTarget.Typed .vmem (.dma qr₂) (.remote (Dev.tc (⟨n₂, hn₂⟩ : Dev nD) : Thread nD τ) (slab o o₂ z₂ h₀ h₂') (.dma qs₂) hsc₂)} :
    iprop(invs X K ∗ preT d t O m f) ⊢ wpd (α := PUnit) d
      (.op (.enqueueDma (m.slice (Rect.unit (s := S512x2048) o₁ z₁ h₁') (fun _ => rfl))
          (.remote (Dev.tc (⟨n₁, hn₁⟩ : Dev nD) : Thread nD τ) (slab o o₁ z₁ h₀ h₁') (.dma qs₁) hsc₁) (.dma qr₁) w₁ w₁' y₁) fun _ =>
        .op (.enqueueDma (m.slice (Rect.unit (s := S512x2048) o₂ z₂ h₂') (fun _ => rfl))
          (.remote (Dev.tc (⟨n₂, hn₂⟩ : Dev nD) : Thread nD τ) (slab o o₂ z₂ h₀ h₂') (.dma qs₂) hsc₂) (.dma qr₂) w₂ w₂' y₂) fun _ => .ret ⟨⟩)
      (fun _ => postT d t O) := by
  unfold preT postT lent
  rw [if_pos h, if_pos h]
  iintro ⟨#HI, ⟨M0, M5⟩, ⟨P0, P5⟩, ⟨B0, B5⟩, ⟨#R0, #R5⟩, HO, ⟨T0, T5⟩, #S0, #S5⟩
  ihave ⟨H0, A0⟩ := (hand 0 d (t + 6)) $$ [B0]; · isplitl [B0]; · iexact B0
                                                  iexact R0
  ihave ⟨H5, A5⟩ := (hand 5 d (t + 6)) $$ [B5]; · isplitl [B5]; · iexact B5
                                                  iexact R5
  iapply (wp_stage X K 0 (Or.inl rfl) d h _ hn₁ e₁ s₁ r₁ o o₁ z₁ h₀ h₁' ho ho₁ hz₁ m hm f hf) $$ [M0 P0 H0 H5 HO T0]
  · rw [extra_zero]; unfold pend; rw [tgt_t00, tgt_t05]
    iframe HI M0 P0 H0 H5 HO T0 S0
  iintro ⟨C0, HO⟩
  iapply (wp_stage X K 5 (Or.inr rfl) d h _ hn₂ e₂ s₂ r₂ o o₂ z₂ h₀ h₂' ho ho₂ hz₂ m hm f hf) $$ [M5 P5 HO T5]
  · rw [extra_rest (by decide)]
    iframe HI M5 P5 HO T5 S5
  iintro ⟨C5, HO⟩
  rw [wpd, wp_ret]; imodintro
  iframe A0 A5 HO C0 C5
  isplitr <;> itrivial

omit [FloatOps F] in
/-- Out of range nothing is sent. -/
theorem t_skip (d : Dev nD) {t : ℕ} (h : ¬InR (t + 5)) (O : CellTallies nD τ sig ℕ) (m : Memref sig .tc .vmem S512x2048 .f32) (hm : m = stg t)
    (f : Buf (Elt F) (m.view.loc (d : Thread nD τ))) : preT d t O m f ⊢ (postT d t O : sProp 𝕄) := by
  subst hm
  unfold preT postT lent
  rw [if_neg h, if_neg h, away_out (show ¬InR (t + 6) by omega), away_out (show ¬InR (t + 6) by omega), due_out h, due_out h, scrd_out h, scrd_out h, add_zero, add_zero]
  iintro ⟨⟨M0, M5⟩, -, ⟨B0, B5⟩, -, HO, -⟩
  iframe B0 B5 HO
  isplitl [M0 M5]
  · isplitl [M0]
    · unfold piece; iexists f; iexact M0
    · unfold piece; iexists f; iexact M5
  · isplitr <;> itrivial

/-! ## The full forwards -/

/-- What the full forwards start from. -/
def preU (d : Dev nD) (t : ℕ) (O : CellTallies nD τ sig ℕ) : sProp 𝕄 :=
  iprop(ownv X 0 d (t + 4) ∗ (pend 1 d (t + 4) ∗ pend 2 d (t + 4)) ∗ (mid 1 d t ∗ mid 2 d t ∗ bare 3 d (t + 4) ∗ bare 4 d (t + 4))
    ∗ (rch 1 d (t + 5) ∗ rch 2 d (t + 5) ∗ rch 3 d (t + 4) ∗ rch 4 d (t + 4)) ∗ ow d (O + due 2 d (t + 4) + due 1 d (t + 4))
    ∗ (tok 1 d (t + 4) ∗ tok 2 d (t + 4)) ∗ srch 1 d (t + 4) ∗ srch 2 d (t + 4))
/-- What they leave. -/
def postU (d : Dev nD) (t : ℕ) (O : CellTallies nD τ sig ℕ) : sProp 𝕄 :=
  iprop(away 0 d (t + 4) ∗ (away 1 d (t + 5) ∗ away 2 d (t + 5) ∗ away 3 d (t + 4) ∗ away 4 d (t + 4)) ∗ ow d O ∗ scrd 1 d (t + 4) ∗ scrd 2 d (t + 4))

/-- The partner's landing of block `t + 4` forwarded to both ring neighbours. -/
theorem u_send (K : GSem nD τ sig → ℕ) (d : Dev nD) {t : ℕ} (h : InR (t + 4)) (O : CellTallies nD τ sig ℕ)
    {n₁ n₂ : ℕ} {hn₁ : n₁ < nD} {hn₂ : n₂ < nD} (e₁ : n₁ = (tgt 1 d).val) (e₂ : n₂ = (tgt 2 d).val)
    {qs₁ qr₁ qs₂ qr₂ : DmaSem sig} (s₁ : qs₁ = sendS 1) (r₁ : qr₁ = recvS (t + 4) 1) (s₂ : qs₂ = sendS 2) (r₂ : qr₂ = recvS (t + 4) 2)
    {o : Fin 3 → ℕ} {o₁ z₁ o₂ z₂ : Fin 2 → ℕ} {h₀ h₁' h₂'} (ho : o = ![(t + 4) % 5, 0, 0])
    (ho₁ : o₁ = ![lo 1 (tgt 1 d), 0]) (hz₁ : z₁ = ![len 1, 2048]) (ho₂ : o₂ = ![lo 2 (tgt 2 d), 0]) (hz₂ : z₂ = ![len 2, 2048])
    {hsc₁ : (slab o o₁ z₁ h₀ h₁' : Memref sig (Dev.tc (⟨n₁, hn₁⟩ : Dev nD) : Thread nD τ).2.kind .vmem ⟨2, z₁⟩ .f32).view.ref.isScScratch = false}
    {hsc₂ : (slab o o₂ z₂ h₀ h₂' : Memref sig (Dev.tc (⟨n₂, hn₂⟩ : Dev nD) : Thread nD τ).2.kind .vmem ⟨2, z₂⟩ .f32).view.ref.isScScratch = false}
    {w₁ w₁' : (slab o o₁ z₁ h₀ h₁').view.WordExact} {w₂ w₂' : (slab o o₂ z₂ h₀ h₂').view.WordExact}
    {y₁ : DmaTarget.Typed .vmem (.dma qr₁) (.remote (Dev.tc (⟨n₁, hn₁⟩ : Dev nD) : Thread nD τ) (slab o o₁ z₁ h₀ h₁') (.dma qs₁) hsc₁)}
    {y₂ : DmaTarget.Typed .vmem (.dma qr₂) (.remote (Dev.tc (⟨n₂, hn₂⟩ : Dev nD) : Thread nD τ) (slab o o₂ z₂ h₀ h₂') (.dma qs₂) hsc₂)} :
    iprop(invs X K ∗ preU X d t O) ⊢ wpd (α := PUnit) d
      (.op (.enqueueDma (slab o o₁ z₁ h₀ h₁')
          (.remote (Dev.tc (⟨n₁, hn₁⟩ : Dev nD) : Thread nD τ) (slab o o₁ z₁ h₀ h₁') (.dma qs₁) hsc₁) (.dma qr₁) w₁ w₁' y₁) fun _ =>
        .op (.enqueueDma (slab o o₂ z₂ h₀ h₂')
          (.remote (Dev.tc (⟨n₂, hn₂⟩ : Dev nD) : Thread nD τ) (slab o o₂ z₂ h₀ h₂') (.dma qs₂) hsc₂) (.dma qr₂) w₂ w₂' y₂) fun _ => .ret ⟨⟩)
      (fun _ => postU d t O) := by
  unfold preU postU mid
  rw [if_neg (show ¬t = 0 by omega), if_neg (show ¬t = 0 by omega), own_in X h, away_in (k := 0) h]
  iintro ⟨#HI, L0, ⟨P1, P2⟩, ⟨B1, B2, B3, B4⟩, ⟨#R1, #R2, #R3, #R4⟩, HO, ⟨T1, T2⟩, #S1, #S2⟩
  ihave ⟨H1, A1⟩ := (hand 1 d (t + 5)) $$ [B1]; · isplitl [B1]; · iexact B1
                                                  iexact R1
  ihave ⟨H2, A2⟩ := (hand 2 d (t + 5)) $$ [B2]; · isplitl [B2]; · iexact B2
                                                  iexact R2
  ihave ⟨H3, A3⟩ := (hand 3 d (t + 4)) $$ [B3]; · isplitl [B3]; · iexact B3
                                                  iexact R3
  ihave ⟨H4, A4⟩ := (hand 4 d (t + 4)) $$ [B4]; · isplitl [B4]; · iexact B4
                                                  iexact R4
  unfold landed
  ihave ⟨L1, L2⟩ := (pointsTo_share (q := fullShare) (PosShare.mem_left_op_right fullShare)).1 $$ L0
  iapply (wp_fwd X K 1 (by decide) d h _ hn₁ e₁ s₁ r₁ o o₁ z₁ h₀ h₁' ho ho₁ hz₁) $$ [L1 P1 H2 H4 HO T1]
  · rw [extra_one, out_full d _ (Or.inl rfl)]; unfold pend; rw [tgt_t12, tgt_t14]
    isplitr; · iexact HI
    isplitl [L1]; · iexact L1
    iframe P1 H2 H4 HO T1 S1
  iintro ⟨C1, HO⟩
  iapply (wp_fwd X K 2 (by decide) d h _ hn₂ e₂ s₂ r₂ o o₂ z₂ h₀ h₂' ho ho₂ hz₂) $$ [L2 P2 H1 H3 HO T2]
  · rw [extra_two, out_full d _ (Or.inr rfl)]; unfold pend; rw [tgt_t21, tgt_t23]
    isplitr; · iexact HI
    isplitl [L2]; · iexact L2
    iframe P2 H1 H3 HO T2 S2
  iintro ⟨C2, HO⟩
  rw [wpd, wp_ret]; imodintro
  iframe A1 A2 A3 A4 HO C1 C2

omit [FloatOps F] in
/-- Out of range nothing is forwarded. -/
theorem u_skip (d : Dev nD) {t : ℕ} (h : ¬InR (t + 4)) (O : CellTallies nD τ sig ℕ) : preU X d t O ⊢ (postU d t O : sProp 𝕄) := by
  unfold preU postU
  rw [own_out X h, away_out (k := 0) h, away_out (k := 3) h, away_out (k := 4) h, due_out h, due_out h, scrd_out h, scrd_out h, add_zero, add_zero]
  have hm : ∀ k : Fin 6, (mid k d t : sProp 𝕄) = away k d (t + 5) := fun k => by
    unfold mid
    split
    · rfl
    · rw [away_out (show ¬InR (t + 5) by omega)]
  rw [hm, hm]
  iintro ⟨L0, -, ⟨B1, B2, B3, B4⟩, -, HO, -⟩
  iframe L0 B1 B2 B3 B4 HO
  isplitr <;> itrivial

/-! ## The half forwards -/

/-- What the half forwards start from. -/
def preV (d : Dev nD) (t : ℕ) (O : CellTallies nD τ sig ℕ) : sProp 𝕄 :=
  iprop((ownv X 1 d (t + 3) ∗ ownv X 2 d (t + 3)) ∗ (pend 3 d (t + 3) ∗ pend 4 d (t + 3)) ∗ ow d (O + due 4 d (t + 3) + due 3 d (t + 3))
    ∗ (tok 3 d (t + 3) ∗ tok 4 d (t + 3)) ∗ srch 3 d (t + 3) ∗ srch 4 d (t + 3))
/-- What they leave. -/
def postV (d : Dev nD) (t : ℕ) (O : CellTallies nD τ sig ℕ) : sProp 𝕄 :=
  iprop((kept X 3 d (t + 3) ∗ kept X 4 d (t + 3)) ∗ ow d O ∗ scrd 3 d (t + 3) ∗ scrd 4 d (t + 3))

/-- A part of each ring neighbour's landing of block `t + 3` forwarded to the other. -/
theorem v_send (K : GSem nD τ sig → ℕ) (d : Dev nD) {t : ℕ} (h : InR (t + 3)) (O : CellTallies nD τ sig ℕ)
    {n₁ n₂ : ℕ} {hn₁ : n₁ < nD} {hn₂ : n₂ < nD} (e₁ : n₁ = (tgt 3 d).val) (e₂ : n₂ = (tgt 4 d).val)
    {qs₁ qr₁ qs₂ qr₂ : DmaSem sig} (s₁ : qs₁ = sendS 3) (r₁ : qr₁ = recvS (t + 3) 3) (s₂ : qs₂ = sendS 4) (r₂ : qr₂ = recvS (t + 3) 4)
    {o : Fin 3 → ℕ} {o₁ z₁ o₂ z₂ : Fin 2 → ℕ} {h₀ h₁' h₂'} (ho : o = ![(t + 3) % 5, 0, 0])
    (ho₁ : o₁ = ![lo 3 (tgt 3 d), 0]) (hz₁ : z₁ = ![len 3, 2048]) (ho₂ : o₂ = ![lo 4 (tgt 4 d), 0]) (hz₂ : z₂ = ![len 4, 2048])
    {hsc₁ : (slab o o₁ z₁ h₀ h₁' : Memref sig (Dev.tc (⟨n₁, hn₁⟩ : Dev nD) : Thread nD τ).2.kind .vmem ⟨2, z₁⟩ .f32).view.ref.isScScratch = false}
    {hsc₂ : (slab o o₂ z₂ h₀ h₂' : Memref sig (Dev.tc (⟨n₂, hn₂⟩ : Dev nD) : Thread nD τ).2.kind .vmem ⟨2, z₂⟩ .f32).view.ref.isScScratch = false}
    {w₁ w₁' : (slab o o₁ z₁ h₀ h₁').view.WordExact} {w₂ w₂' : (slab o o₂ z₂ h₀ h₂').view.WordExact}
    {y₁ : DmaTarget.Typed .vmem (.dma qr₁) (.remote (Dev.tc (⟨n₁, hn₁⟩ : Dev nD) : Thread nD τ) (slab o o₁ z₁ h₀ h₁') (.dma qs₁) hsc₁)}
    {y₂ : DmaTarget.Typed .vmem (.dma qr₂) (.remote (Dev.tc (⟨n₂, hn₂⟩ : Dev nD) : Thread nD τ) (slab o o₂ z₂ h₀ h₂') (.dma qs₂) hsc₂)} :
    iprop(invs X K ∗ preV X d t O) ⊢ wpd (α := PUnit) d
      (.op (.enqueueDma (slab o o₁ z₁ h₀ h₁')
          (.remote (Dev.tc (⟨n₁, hn₁⟩ : Dev nD) : Thread nD τ) (slab o o₁ z₁ h₀ h₁') (.dma qs₁) hsc₁) (.dma qr₁) w₁ w₁' y₁) fun _ =>
        .op (.enqueueDma (slab o o₂ z₂ h₀ h₂')
          (.remote (Dev.tc (⟨n₂, hn₂⟩ : Dev nD) : Thread nD τ) (slab o o₂ z₂ h₀ h₂') (.dma qs₂) hsc₂) (.dma qr₂) w₂ w₂' y₂) fun _ => .ret ⟨⟩)
      (fun _ => postV X d t O) := by
  unfold preV postV kept
  rw [own_in X h, own_in X h, if_pos h, if_pos h]
  unfold landed
  iintro ⟨#HI, ⟨L1, L2⟩, ⟨P3, P4⟩, HO, ⟨T3, T4⟩, #S3, #S4⟩
  ihave ⟨M3, K3⟩ := (pointsTo_split_subset (out_sub (k := 3) d (t + 3) (by decide))).1 $$ L1
  ihave ⟨M4, K4⟩ := (pointsTo_split_subset (out_sub (k := 4) d (t + 3) (by decide))).1 $$ L2
  iapply (wp_fwd X K 3 (by decide) d h _ hn₁ e₁ s₁ r₁ o o₁ z₁ h₀ h₁' ho ho₁ hz₁) $$ [M3 P3 HO T3]
  · rw [extra_rest (by decide)]
    isplitr; · iexact HI
    isplitl [M3]; · iexact M3
    iframe P3 HO T3 S3
  iintro ⟨C3, HO⟩
  iapply (wp_fwd X K 4 (by decide) d h _ hn₂ e₂ s₂ r₂ o o₂ z₂ h₀ h₂' ho ho₂ hz₂) $$ [M4 P4 HO T4]
  · rw [extra_rest (by decide)]
    isplitr; · iexact HI
    isplitl [M4]; · iexact M4
    iframe P4 HO T4 S4
  iintro ⟨C4, HO⟩
  rw [wpd, wp_ret]; imodintro
  isplitl [K3 K4]
  · isplitl [K3]; · iexact K3
    iexact K4
  iframe HO C3 C4

omit [FloatOps F] in
/-- Out of range nothing is forwarded. -/
theorem v_skip (d : Dev nD) {t : ℕ} (h : ¬InR (t + 3)) (O : CellTallies nD τ sig ℕ) : preV X d t O ⊢ (postV X d t O : sProp 𝕄) := by
  unfold preV postV kept
  rw [own_out X h, own_out X h, if_neg h, if_neg h, due_out h, due_out h, scrd_out h, scrd_out h, add_zero, add_zero]
  iintro ⟨⟨L1, L2⟩, -, HO, -⟩
  isplitl [L1 L2]
  · isplitl [L1]; · iexact L1
    iexact L2
  iframe HO
  isplitr <;> itrivial

end Cert.KernelIdeal.Mesh

end
-- ==== Proof.KernelIdeal.Compute.lean ====
/-
  The block of a step that finishes a block of the result: the last three landings, the slot gathered from the six, the loads and
  the store.
-/
module

public import proofs.«01_k».proof.Proof.KernelIdeal.Forwards

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## A slot gathered from its six landings -/

/-- The slot of block `B`: all its rows. -/
abbrev slot (B : ℕ) : Finset S5x512x2048.Idx := rows 0 512 B

/-- A slot is its six landings. -/
theorem slot_eq (d : Dev nD) (B : ℕ) : slot B = Finset.univ.biUnion fun k : Fin 6 => rg k d B := by
  ext i
  rw [Finset.mem_biUnion, mem_rows]
  have hi : (i 1).val < 512 := (i 1).isLt
  constructor
  · rintro ⟨h0, -, -⟩
    exact ⟨kindOf d (i 1).val, Finset.mem_univ _, mem_rows.mpr ⟨h0, (kindOf_iff d _ hi _).mp rfl⟩⟩
  · rintro ⟨k, -, hk⟩
    exact ⟨(mem_rows.mp hk).1, Nat.zero_le _, by omega⟩

/-- The landings of a slot are disjoint. -/
theorem rg_disjoint (d : Dev nD) (B : ℕ) (k k' : Fin 6) (h : k ≠ k') : Disjoint (rg k d B) (rg k' d B) := by
  rw [Finset.disjoint_left]
  intro i hi hi'
  have hlt : (i 1).val < 512 := (i 1).isLt
  exact h (((kindOf_iff d _ hlt k).mpr (mem_rows.mp hi).2).symm.trans ((kindOf_iff d _ hlt k').mpr (mem_rows.mp hi').2))

omit [FloatOps F] in
/-- A slot with the gathered contents is its six landings with theirs. -/
theorem gather (d : Dev nD) (B : ℕ) :
    (aloc d ↦[slot B]{fullShare} gathered X d B : sProp 𝕄)
      = iprop(landed X 0 d B ∗ landed X 1 d B ∗ landed X 2 d B ∗ landed X 3 d B ∗ landed X 4 d B ∗ landed X 5 d B) := by
  have e : ∀ k : Fin 6, (aloc d ↦[rg k d B]{fullShare} gathered X d B : sProp 𝕄) = landed X k d B := fun k =>
    pointsTo_congr fun i hi => by
      have hlt : (i 1).val < 512 := (i 1).isLt
      unfold gathered
      rw [(kindOf_iff d _ hlt k).mpr (mem_rows.mp hi).2]
  rw [slot_eq d B, pointsTo_biUnion _ _ fun k _ k' _ h => rg_disjoint d B k k' h, bigSep_congr fun k _ => e k,
    bigSep_univ_eq_bigSepL [0, 1, 2, 3, 4, 5] (by decide) (by decide)]
  simp only [bigSepL]
  rfl

/-! ## Loads and the store -/

/-- The slot of block `B` as the kernel loads it. -/
def slotv (d : Dev nD) (B : ℕ) : Vec F S1x512x2048 .f32 := fun j => gathered X d B (ix3 ⟨B % 5, Nat.mod_lt _ (by decide)⟩ (j 1) (j 2))

/-- A rectangle of a whole block's size. -/
abbrev wr (o : Fin 2 → ℕ) (h : ∀ a, o a + S512x2048.size a ≤ S512x2048.size a) : Rect S512x2048 := Rect.unit (s := S512x2048) o S512x2048.size h

omit [FloatOps F] in
/-- A load of a whole staging buffer reads it. -/
theorem load_all (m : Memref sig .tc .vmem S512x2048 .f32) (h) (f : m.view.ty.Contents (Elt F)) :
    m.view.readAt (Elt F) (Rect.unit (s := S512x2048) ![0, 0] S512x2048.size h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega

omit [FloatOps F] in
/-- A load of the weights' row reads it. -/
theorem load_row (m : Memref sig .tc .vmem S1x2048 .f32) (h) (f : m.view.ty.Contents (Elt F)) :
    m.view.readAt (Elt F) (Rect.unit (s := S1x2048) ![0, 0] S1x2048.size h).toLoadRect f = m.view.read (Elt F) f := by
  funext x
  refine congrArg (m.view.read (Elt F) f) (funext fun a => Fin.ext ?_)
  match a with
  | ⟨0, _⟩ => show 0 + 1 * (x 0).val = (x 0).val; omega
  | ⟨1, _⟩ => show 0 + 1 * (x 1).val = (x 1).val; omega

omit [FloatOps F] in
/-- A store to a whole staging buffer leaves what is stored. -/
theorem store_all (m : Memref sig .tc .vmem S512x2048 .f32) (h) (f : m.view.ty.Contents (Elt F)) (w : S512x2048.Idx → Elt F .f32) :
    m.view.read (Elt F) ((m.access (Rect.unit (s := S512x2048) ![0, 0] S512x2048.size h)).write (Elt F) f w Finset.univ) = w := by
  funext x
  have hx : (Rect.unit (s := S512x2048) ![0, 0] S512x2048.size h).emb x = x := funext fun a => Fin.ext (by
    match a with
    | ⟨0, _⟩ => show 0 + 1 * (x 0).val = (x 0).val; omega
    | ⟨1, _⟩ => show 0 + 1 * (x 1).val = (x 1).val; omega)
  have := View.read_slice_write_emb (v := m.view) (Val := Elt F) (Rect.unit (s := S512x2048) ![0, 0] S512x2048.size h) f w (Finset.mem_univ x)
  rw [hx] at this
  exact this

omit [FloatOps F] in
/-- The load of a block's slot reads what was gathered in it. -/
theorem load_slot (d : Dev nD) (B : ℕ) (o : Fin 3 → ℕ) (h) (ho : o = ![B % 5, 0, 0]) :
    (Memref.whole cc0_scratch0 : Memref sig .tc .vmem S5x512x2048 .f32).view.readAt (Elt F)
      (Rect.unit (s := S5x512x2048) o S1x512x2048.size h).toLoadRect (gathered X d B) = slotv X d B := by
  subst ho
  funext x
  refine congrArg (gathered X d B) (funext fun a => Fin.ext ?_)
  match a with
  | ⟨0, _⟩ => show B % 5 + 1 * (x 0).val = B % 5; have : (x 0).val < 1 := (x 0).isLt; omega
  | ⟨1, _⟩ => show 0 + 1 * (x 1).val = (x 1).val; omega
  | ⟨2, _⟩ => show 0 + 1 * (x 2).val = (x 2).val; omega

/-- The load of a slot reads its rows alone. -/
theorem slot_load_set (B : ℕ) (o : Fin 3 → ℕ) (h) (ho : o = ![B % 5, 0, 0]) :
    (Memref.whole cc0_scratch0 : Memref sig .tc .vmem S5x512x2048 .f32).view.setOn
      (Rect.unit (s := S5x512x2048) o S1x512x2048.size h).toLoadRect.set ⊆ slot B := by
  subst ho
  intro i hi
  obtain ⟨j, hj, rfl⟩ := Finset.mem_map.mp hi
  have hj := Rect.mem_set_unit.mp hj
  have h0 := hj 0
  have hlt : (j 1).val < 512 := (j 1).isLt
  refine mem_rows.mpr ⟨?_, Nat.zero_le _, ?_⟩
  · show (j 0).val = B % 5
    have : B % 5 ≤ (j 0).val ∧ (j 0).val < B % 5 + 1 := h0
    omega
  · show (j 1).val < 0 + 512; omega

/-! ## The block -/

/-- The block of the result a step writes. -/
def outv (P R : S512x2048.Idx → Elt F .f32) (G : S1x2048.Idx → Elt F .f32) (d : Dev nD) (B : ℕ) : S512x2048.Idx → Elt F .f32 :=
  k0_pay1 (k0_pay2 P R (slotv X d B)) G

/-- What the block that finishes a block of the result starts from. -/
def preC (d : Dev nD) (t : ℕ) (O : CellTallies nD τ sig ℕ) : sProp 𝕄 :=
  iprop((crd 5 d (t + 2) ∗ crd 3 d (t + 2) ∗ crd 4 d (t + 2)) ∗ ow d O ∗ (posn 5 d (t + 2) ∗ posn 3 d (t + 2) ∗ posn 4 d (t + 2))
    ∗ (away 5 d (t + 2) ∗ away 3 d (t + 2) ∗ away 4 d (t + 2)) ∗ ownv X 0 d (t + 2) ∗ ownv X 1 d (t + 2) ∗ ownv X 2 d (t + 2))
/-- What it leaves: the slot's rows, free for the next block. -/
def postC (d : Dev nD) (t : ℕ) (O : CellTallies nD τ sig ℕ) : sProp 𝕄 :=
  iprop(ow d O ∗ (posn 5 d (t + 2 + 5) ∗ posn 3 d (t + 2 + 5) ∗ posn 4 d (t + 2 + 5))
    ∗ bare 0 d (t + 2 + 5) ∗ bare 1 d (t + 2 + 5) ∗ bare 2 d (t + 2 + 5) ∗ bare 3 d (t + 2 + 5) ∗ bare 4 d (t + 2 + 5) ∗ bare 5 d (t + 2 + 5))

omit [FloatOps F] in
/-- A slot that has been used is its six landings' rows, contents forgotten. -/
theorem scatter (d : Dev nD) (B : ℕ) : (aloc d ↦[slot B]{fullShare} gathered X d B : sProp 𝕄)
    ⊢ iprop(bare 0 d (B + 5) ∗ bare 1 d (B + 5) ∗ bare 2 d (B + 5) ∗ bare 3 d (B + 5) ∗ bare 4 d (B + 5) ∗ bare 5 d (B + 5)) := by
  rw [gather]
  simp only [bare_next]
  exact BI.sep_mono (landed_bare X _ _ _) (BI.sep_mono (landed_bare X _ _ _) (BI.sep_mono (landed_bare X _ _ _)
    (BI.sep_mono (landed_bare X _ _ _) (BI.sep_mono (landed_bare X _ _ _) (landed_bare X _ _ _)))))

/-- The window of the result, after the step that writes it or untouched. -/
def wrote (d : Dev nD) (t : ℕ) (m5 : Memref sig .tc .vmem S512x2048 .f32) (P R : S512x2048.Idx → Elt F .f32) (G : S1x2048.Idx → Elt F .f32)
    (E : sProp 𝕄) : sProp 𝕄 :=
  if InR (t + 2) then owns (d : Thread nD τ) m5 fullShare (outv X P R G d (t + 2)) else E

/-- The credit of a copy from the staging buffer. -/
theorem stage_credit (m : Memref sig .tc .vmem S512x2048 .f32) (k : Fin 6) (o' sz : Fin 2 → ℕ) (h') (hs : sz = ![len k, 2048]) :
    (m.slice (Rect.unit (s := S512x2048) o' sz h') (fun _ => rfl)).view.dmaCredit = amt k := by
  subst hs
  show RefSig.tileCredit ⟨2, ![len k, 2048]⟩ .f32 = len k * 256
  clear h'
  revert k; decide +kernel

set_option maxHeartbeats 800000 in
/-- The last three waits, the loads and the store of the block of the result. -/
theorem c_run (K : GSem nD τ sig → ℕ) (d : Dev nD) {t : ℕ} (h : InR (t + 2)) {O : CellTallies nD τ sig ℕ} (hO : High (t + 2) O)
    (m2 m4 m5 : Memref sig .tc .vmem S512x2048 .f32) (m3 : Memref sig .tc .vmem S1x2048 .f32)
    (P R : S512x2048.Idx → Elt F .f32) (G : S1x2048.Idx → Elt F .f32) (E : sProp 𝕄)
    (hE : E ⊢ iprop(∃ f, m5.view.loc (d : Thread nD τ) ↦[m5.view.set]{fullShare} f))
    {q₁ q₂ q₃ : DmaSem sig} (hq₁ : q₁ = recvS (t + 2) 5) (hq₂ : q₂ = recvS (t + 2) 3) (hq₃ : q₃ = recvS (t + 2) 4)
    {sp₁ sp₁' sp₂ sp₂' sp₃ sp₃' : Space} {s₁ s₁' s₂ s₂' s₃ s₃' : Shape} {e₁ e₁' e₂ e₂' e₃ e₃' : EltTy}
    {src₁ : Memref sig .tc sp₁ s₁ e₁} {dst₁ : Memref sig .tc sp₁' s₁' e₁'} {hsrc₁ : src₁.view.WordExact} {hdst₁ : dst₁.view.WordExact}
    {src₂ : Memref sig .tc sp₂ s₂ e₂} {dst₂ : Memref sig .tc sp₂' s₂' e₂'} {hsrc₂ : src₂.view.WordExact} {hdst₂ : dst₂.view.WordExact}
    {src₃ : Memref sig .tc sp₃ s₃ e₃} {dst₃ : Memref sig .tc sp₃' s₃' e₃'} {hsrc₃ : src₃.view.WordExact} {hdst₃ : dst₃.view.WordExact}
    (hc₁ : dst₁.view.dmaCredit = amt 5) (hc₂ : dst₂.view.dmaCredit = amt 3) (hc₃ : dst₃.view.dmaCredit = amt 4)
    {o : Fin 3 → ℕ} (ho : o = ![(t + 2) % 5, 0, 0]) {i4 i2 i6 i3 i5 l4 l2 l6 l3 l5 x5 y5} :
    iprop((invs X K ∗ levAts L lv) ∗ preC X d t O ∗ owns (d : Thread nD τ) m4 fullShare P ∗ owns (d : Thread nD τ) m2 fullShare R
        ∗ owns (d : Thread nD τ) m3 fullShare G ∗ E)
      ⊢ wpd (α := PUnit) d (.op (.waitDma2 q₁ src₁ dst₁ hsrc₁ hdst₁) fun _ => .op (.waitDma2 q₂ src₂ dst₂ hsrc₂ hdst₂) fun _ =>
          .op (.waitDma2 q₃ src₃ dst₃ hsrc₃ hdst₃) fun _ =>
          .op (.load m4 (Rect.unit (s := S512x2048) ![0, 0] S512x2048.size i4).toLoadRect l4) fun v4 =>
          .op (.load m2 (Rect.unit (s := S512x2048) ![0, 0] S512x2048.size i2).toLoadRect l2) fun v2 =>
          .op (.load (Memref.whole cc0_scratch0) (Rect.unit (s := S5x512x2048) o S1x512x2048.size i6).toLoadRect l6) fun v6 =>
          .op (.load m3 (Rect.unit (s := S1x2048) ![0, 0] S1x2048.size i3).toLoadRect l3) fun v3 =>
          .op (.load m5 (Rect.unit (s := S512x2048) ![0, 0] S512x2048.size i5).toLoadRect l5) fun _ =>
          .op (.store m5 (Rect.unit (s := S512x2048) ![0, 0] S512x2048.size i5) (k0_pay1 (k0_pay2 v4 v2 v6) v3) Finset.univ x5 y5) fun _ => .ret ⟨⟩)
        (fun _ => iprop(postC d t O ∗ owns (d : Thread nD τ) m4 fullShare P ∗ owns (d : Thread nD τ) m2 fullShare R
          ∗ owns (d : Thread nD τ) m3 fullShare G ∗ wrote X d t m5 P R G E)) := by
  unfold preC postC wrote
  rw [if_pos h]
  rw [own_in X h, own_in X h, own_in X h]
  unfold owns
  iintro ⟨⟨#HI, #Hlev⟩, ⟨⟨C5, C3, C4⟩, HO, ⟨P5, P3, P4⟩, -, L0, L1, L2⟩, ⟨%f4, %h4, M4⟩, ⟨%f2, %h2, M2⟩, ⟨%f3, %h3, M3⟩, HE⟩
  ihave ⟨%f5, M5⟩ := hE $$ HE
  iapply (wp_recv X K 5 d h hO (lvl_wait 5 h) hq₁ hc₁) $$ [C5 HO P5]
  · iframe HI Hlev C5 HO P5
  iintro ⟨HO, P5, Y5⟩
  iapply (wp_recv X K 3 d h hO (lvl_wait 3 h) hq₂ hc₂) $$ [C3 HO P3]
  · iframe HI Hlev C3 HO P3
  iintro ⟨HO, P3, Y3⟩
  iapply (wp_recv X K 4 d h hO (lvl_wait 4 h) hq₃ hc₃) $$ [C4 HO P4]
  · iframe HI Hlev C4 HO P4
  iintro ⟨HO, P4, Y4⟩
  unfold recvPay
  icases Y5 with ⟨L5, -⟩
  icases Y3 with ⟨L3, -⟩
  icases Y4 with ⟨L4, -⟩
  ihave HS := (Entails.of_eq (gather X d (t + 2)).symm) $$ [L0 L1 L2 L3 L4 L5]
  · iframe L0 L1 L2 L3 L4 L5
  iapply (wp_load 𝒱₀ (d : Thread nD τ) none Set.univ (View.setOn_subset_set _ _)) $$ M4
  iintro M4
  iapply (wp_load 𝒱₀ (d : Thread nD τ) none Set.univ (View.setOn_subset_set _ _)) $$ M2
  iintro M2
  iapply (wp_load 𝒱₀ (d : Thread nD τ) none Set.univ (slot_load_set (t + 2) o i6 ho)) $$ HS
  iintro HS
  iapply (wp_load 𝒱₀ (d : Thread nD τ) none Set.univ (View.setOn_subset_set _ _)) $$ M3
  iintro M3
  iapply (wp_load 𝒱₀ (d : Thread nD τ) none Set.univ (View.setOn_subset_set _ _)) $$ M5
  iintro M5
  rw [load_all, load_all, load_slot X d (t + 2) o i6 ho, load_row, h4, h2, h3]
  iapply (wp_store 𝒱₀ (d : Thread nD τ) none Set.univ (m := m5) (r := Rect.unit (s := S512x2048) ![0, 0] S512x2048.size i5) (f := f5)
    (S := m5.view.set) ((View.setOn_subset_set _ _).trans (View.set_slice_subset m5.view _))) $$ M5
  iintro M5
  rw [wp_ret]; imodintro
  isplitl [HO P5 P3 P4 HS]
  · iframe HO P5 P3 P4
    iapply (scatter X d (t + 2)); iexact HS
  isplitl [M4]; · iexists f4; isplitr; · ipureintro; exact h4
                  iexact M4
  isplitl [M2]; · iexists f2; isplitr; · ipureintro; exact h2
                  iexact M2
  isplitl [M3]; · iexists f3; isplitr; · ipureintro; exact h3
                  iexact M3
  iexists _
  isplitr [M5]
  rotate_left
  · iexact M5
  ipureintro
  exact store_all m5 i5 f5 _

/-- Out of range nothing is computed. -/
theorem c_skip (d : Dev nD) {t : ℕ} (ht : t < 19) (h : ¬InR (t + 2)) (O : CellTallies nD τ sig ℕ)
    (m2 m4 m5 : Memref sig .tc .vmem S512x2048 .f32) (m3 : Memref sig .tc .vmem S1x2048 .f32)
    (P R : S512x2048.Idx → Elt F .f32) (G : S1x2048.Idx → Elt F .f32) (E : sProp 𝕄) :
    iprop(preC X d t O ∗ owns (d : Thread nD τ) m4 fullShare P ∗ owns (d : Thread nD τ) m2 fullShare R ∗ owns (d : Thread nD τ) m3 fullShare G ∗ E)
      ⊢ (iprop(postC d t O ∗ owns (d : Thread nD τ) m4 fullShare P ∗ owns (d : Thread nD τ) m2 fullShare R
          ∗ owns (d : Thread nD τ) m3 fullShare G ∗ wrote X d t m5 P R G E) : sProp 𝕄) := by
  unfold preC postC wrote
  rw [if_neg h]
  simp only [own_out X h, away_out h, bare_next, ← posn_next (F := F) h (show t + 2 < 26 by omega)]
  iintro ⟨⟨-, HO, ⟨P5, P3, P4⟩, ⟨A5, A3, A4⟩, A0, A1, A2⟩, M4, M2, M3, HE⟩
  iframe HO P5 P3 P4 A0 A1 A2 A3 A4 A5 M4 M2 M3 HE

end Cert.KernelIdeal.Mesh

end
-- ==== Proof.KernelIdeal.Waiting.lean ====
/-
  The first half of a step: the entry handshake and the waits on the landings of the partner and of the ring neighbours.
-/
module

public import proofs.«01_k».proof.Proof.KernelIdeal.Compute

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## Composition with the program's continuation -/

/-- A block run before what follows it. -/
theorem cpk (d : Dev nD) {α : Type} {P : Prog (TpuEff nD τ sig (Elt F) Λ₀ .tc) PUnit} (k : Prog (TpuEff nD τ sig (Elt F) Λ₀ .tc) α)
    {Pre Post : sProp 𝕄} {Φ : α → sProp 𝕄} (hP : Pre ⊢ wpd d P fun _ => Post) :
    Pre ⊢ iprop((Post -∗ wpd d k Φ) -∗ wpd d (P >>= fun _ => k) Φ) := by
  iintro H Hk
  rw [wpd, wpd, wp_bind]
  iapply (cps d hP) $$ [H]
  · iexact H
  iintro %a
  iexact Hk

/-- A program that has returned. -/
theorem wpd_done (d : Dev nD) {α : Type} (a : α) {Φ : α → sProp 𝕄} : Φ a ⊢ wpd d (.ret a) Φ := by
  iintro H
  rw [wpd, wp_ret]; imodintro
  iexact H

/-- A conditional block before what follows it, its condition being `R`. -/
theorem when_cpk (d : Dev nD) {α : Type} {C R : Prop} [Decidable C] (hC : C ↔ R) {A : C → Prog (TpuEff nD τ sig (Elt F) Λ₀ .tc) α}
    {k : Prog (TpuEff nD τ sig (Elt F) Λ₀ .tc) α} {I Pre Post : sProp 𝕄} {Φ : α → sProp 𝕄}
    (ht : ∀ h : C, R → (iprop(I ∗ Pre) ⊢ iprop((Post -∗ wpd d k Φ) -∗ wpd d (A h) Φ))) (hf : ¬R → (Pre ⊢ Post)) :
    iprop(I ∗ Pre) ⊢ iprop((Post -∗ wpd d k Φ) -∗ wpd d (dite C A fun _ => k) Φ) := by
  by_cases h : C
  · rw [dif_pos h]
    exact ht h (hC.mp h)
  · rw [dif_neg h]
    iintro ⟨-, H⟩ Hk
    iapply Hk
    iapply (hf fun hR => h (hC.mpr hR))
    iexact H

/-! ## The first half of a step -/

/-- What the first half of a step starts from. -/
def preW (d : Dev nD) (t : ℕ) : sProp 𝕄 :=
  iprop(pre0 d t (sends d t) ∗ (crd 0 d (t + 4) ∗ posn 0 d (t + 4) ∗ away 0 d (t + 4))
    ∗ (crd 1 d (t + 3) ∗ crd 2 d (t + 3)) ∗ (posn 1 d (t + 3) ∗ posn 2 d (t + 3)) ∗ (away 1 d (t + 3) ∗ away 2 d (t + 3)) ∗ heldF d t)
/-- What it leaves. -/
def postW (d : Dev nD) (t : ℕ) : sProp 𝕄 :=
  iprop((start d (t + 1) ∗ heldF d (t + 1) ∗ away 0 d (t + 5) ∗ away 5 d (t + 5) ∗ mid 1 d t ∗ mid 2 d t)
    ∗ (posn 0 d (t + 4 + 5) ∗ ownv X 0 d (t + 4) ∗ pend 0 d (t + 5) ∗ pend 5 d (t + 5)) ∗ postF X d t (sends d t))

set_option maxHeartbeats 1600000 in
/-- The first half of a step: the handshake and the waits ahead of the sends. -/
theorem waiting (K : GSem nD τ sig → ℕ) (d : Dev nD) (t : Fin cfg0.N)
    {m1 m2 m4 m5 : Memref sig .tc .vmem S512x2048 .f32} {m3 : Memref sig .tc .vmem S1x2048 .f32} {hm1 hm2 hm3 hm4 hm5 h6}
    {a0 v2 v5 v8 v13 v15 v17 v34 v49 v66 v70 v76 : BitVec 32} {v75 : BitVec 1} :
    iprop((invs X K ∗ levAts L lv) ∗ preW d t.val)
      ⊢ wpd d (k0_part9_skel (F := F) (grid0.coords t) m1 hm1 m2 hm2 m3 hm3 m4 hm4 m5 hm5 (Memref.whole cc0_scratch0) h6 cc0_scratch1 cc0_scratch2 a0 d v2 v5 v8 v13 v15 v17 v34 v49 v66 v70 v75 v76) (fun _ => postW X d t.val) := by
  have ht := lt19 t
  unfold k0_part9_skel preW postW
  rw [k0_part1_eq_skeleton]
  extract_lets
  iintro ⟨#HI, H0, ⟨CZ, PZ, AZ⟩, CF, PF, AF, HF⟩
  iapply (when_cpk d (cond1_iff t) (I := iprop(invs X K ∗ levAts L lv)) (Pre := pre0 d t.val (sends d t.val)) (Post := post0 d t.val (sends d t.val))
    (fun h h0 => cpk d _ (handshake X K d h0 (High.sends d t.val) (dev1_eq d) (dev2_eq d) (dev3_eq d) rfl rfl rfl rfl))
    (fun h => handshake_later d h _)) $$ [H0]
  · isplitr; · iexact HI
    iexact H0
  unfold post0
  iintro ⟨S, HO, HZ, HF', E0, E5, M1, M2⟩
  iapply (when_cpk d (cond2_iff t) (I := iprop(invs X K ∗ levAts L lv)) (Pre := preZ d t.val (sends d t.val)) (Post := postZ X d t.val (sends d t.val))
    (fun h hR => cpk d _ (z_wait X K d hR (High.sends d t.val) (recvS_eq _ _ 0 (off1_eq t) _) (slab_credit 0 _ _ _ _ _ rfl)))
    (fun h => z_skip X d ht h _)) $$ [HO HZ CZ PZ AZ]
  · isplitr; · iexact HI
    unfold preZ
    iframe HO HZ CZ PZ AZ
  unfold postZ
  iintro ⟨HO, PZ, OZ, Q0, Q5⟩
  iapply (when_cpk d (cond3_iff t) (I := iprop(invs X K ∗ levAts L lv)) (Pre := preF d t.val (sends d t.val)) (Post := postF X d t.val (sends d t.val))
    (fun h hR => cpk d _ (f_wait X K d hR (High.sends d t.val) (recvS_eq _ _ 1 (off4_eq t) _) (recvS_eq _ _ 2 (off7_eq t) _)
      (slab_credit 1 _ _ _ _ _ rfl) (slab_credit 2 _ _ _ _ _ rfl)))
    (fun h => f_skip X d ht h _)) $$ [HO CF PF AF HF]
  · isplitr; · iexact HI
    unfold preF
    iframe CF HO PF AF HF
  iintro HP
  iapply (wpd_done d _)
  iframe S HF' E0 E5 M1 M2 PZ OZ Q0 Q5 HP

end Cert.KernelIdeal.Mesh

end
-- ==== Proof.KernelIdeal.Staging.lean ====
/-
  The staging buffer of the first operand: the rows its two sends read, lent at a half share, and the buffer again after them.
-/
module

public import proofs.«01_k».proof.Proof.KernelIdeal.Waiting

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-- The two bands the sends read do not overlap, as bounds. -/
theorem bands_aux : ∀ d : Dev nD, lo 0 (tgt 0 d) + len 0 ≤ lo 5 (tgt 5 d) ∨ lo 5 (tgt 5 d) + len 5 ≤ lo 0 (tgt 0 d) := by decide

/-- The two bands the sends read do not overlap. -/
theorem bands (d : Dev nD) : Disjoint (brows (lo 0 (tgt 0 d)) (len 0)) (brows (lo 5 (tgt 5 d)) (len 5)) := by
  rw [Finset.disjoint_left]
  intro i h0 h5
  unfold brows at h0 h5
  have h0 := (Finset.mem_filter.mp h0).2
  have h5 := (Finset.mem_filter.mp h5).2
  have := bands_aux d
  omega

/-- The rows of a send from the staging buffer. -/
abbrev band (m : Memref sig .tc .vmem S512x2048 .f32) (k : Fin 6) (d : Dev nD) : Finset m.view.ty.Idx :=
  m.view.setOn (brows (lo k (tgt k d)) (len k))

/-- The second band lies outside the first. -/
theorem band_sub (m : Memref sig .tc .vmem S512x2048 .f32) (d : Dev nD) : band m 5 d ⊆ m.view.set \ band m 0 d := by
  intro i hi
  rw [Finset.mem_sdiff]
  refine ⟨View.setOn_subset_set _ _ hi, fun h0 => ?_⟩
  obtain ⟨j, hj, rfl⟩ := Finset.mem_map.mp hi
  obtain ⟨j', hj', e⟩ := Finset.mem_map.mp h0
  rw [m.view.emb.injective e] at hj'
  exact Finset.disjoint_left.mp (bands d) hj' hj

/-- What stays of the buffer while its two bands are lent at a half share. -/
def stays (m : Memref sig .tc .vmem S512x2048 .f32) (d : Dev nD) (f : Buf (Elt F) (m.view.loc (d : Thread nD τ))) : sProp 𝕄 :=
  iprop((m.view.loc (d : Thread nD τ) ↦[(m.view.set \ band m 0 d) \ band m 5 d]{fullShare.left} f)
    ∗ (m.view.loc (d : Thread nD τ) ↦[m.view.set]{fullShare.right} f))

omit [FloatOps F] in
/-- The staging buffer as the two lent halves and what stays. -/
theorem lend (m : Memref sig .tc .vmem S512x2048 .f32) (d : Dev nD) (f : Buf (Elt F) (m.view.loc (d : Thread nD τ))) :
    (m.view.loc (d : Thread nD τ) ↦[m.view.set]{fullShare} f : sProp 𝕄) ⊢ iprop((half m 0 d f ∗ half m 5 d f) ∗ stays m d f) := by
  unfold stays
  iintro H
  ihave ⟨HL, HR⟩ := (pointsTo_share (q := fullShare) (PosShare.mem_left_op_right fullShare)).1 $$ H
  ihave ⟨H0, HL⟩ := (pointsTo_split_subset (View.setOn_subset_set m.view (brows (lo 0 (tgt 0 d)) (len 0)))).1 $$ HL
  ihave ⟨H5, HL⟩ := (pointsTo_split_subset (band_sub m d)).1 $$ HL
  isplitl [H0 H5]
  · isplitl [H0]; · iexact H0
    iexact H5
  isplitl [HL]; · iexact HL
  iexact HR

omit [FloatOps F] in
/-- A band that came back holds what the buffer holds. -/
theorem same (m : Memref sig .tc .vmem S512x2048 .f32) (k : Fin 6) (d : Dev nD) (f : Buf (Elt F) (m.view.loc (d : Thread nD τ))) :
    iprop((m.view.loc (d : Thread nD τ) ↦[m.view.set]{fullShare.right} f) ∗ ∃ g, half m k d g)
      ⊢ (iprop((m.view.loc (d : Thread nD τ) ↦[m.view.set]{fullShare.right} f) ∗ half m k d f) : sProp 𝕄) := by
  iintro ⟨HR, ⟨%g, Hg⟩⟩
  ihave %ha := (pointsTo_agree (q₁ := fullShare.right) (q₂ := fullShare.left)) $$ [HR Hg]
  · isplitl [HR]; · iexact HR
    iexact Hg
  isplitl [HR]; · iexact HR
  iapply (Entails.of_eq (pointsTo_congr fun i hi => ((ha i (Finset.mem_inter.mpr ⟨View.setOn_subset_set _ _ hi, hi⟩)).1).symm))
  iexact Hg

omit [FloatOps F] in
/-- The staging buffer again, from the pieces that came back and what stayed. -/
theorem regain (m : Memref sig .tc .vmem S512x2048 .f32) (d : Dev nD) (t : ℕ) (hm : m = stg t)
    (f : Buf (Elt F) (m.view.loc (d : Thread nD τ))) :
    iprop((piece 0 d t ∗ piece 5 d t) ∗ stays m d f) ⊢ (m.view.loc (d : Thread nD τ) ↦[m.view.set]{fullShare} f : sProp 𝕄) := by
  subst hm
  unfold stays piece
  iintro ⟨⟨P0, P5⟩, HL, HR⟩
  ihave ⟨HR, H0⟩ := (same (stg t) 0 d f) $$ [HR P0]
  · isplitl [HR]; · iexact HR
    iexact P0
  ihave ⟨HR, H5⟩ := (same (stg t) 5 d f) $$ [HR P5]
  · isplitl [HR]; · iexact HR
    iexact P5
  iapply (pointsTo_share (q := fullShare) (PosShare.mem_left_op_right fullShare)).2
  isplitr [HR]
  rotate_left
  · iexact HR
  iapply (pointsTo_split_subset (View.setOn_subset_set (stg t).view (brows (lo 0 (tgt 0 d)) (len 0)))).2
  isplitl [H0]; · iexact H0
  iapply (pointsTo_split_subset (band_sub (stg t) d)).2
  isplitl [H5]; · iexact H5
  iexact HL

end Cert.KernelIdeal.Mesh

end
-- ==== Proof.KernelIdeal.Body.lean ====
/-
  One step of the kernel at a symbolic device: the invariant between steps, and the body from one to the next.
-/
module

public import proofs.«01_k».proof.Proof.KernelIdeal.Staging

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## What is drained and what turns -/

/-- The credits of the waits of kind `k` from block `x` on, and the tokens of its sends. -/
def crds (k : Fin 6) (d : Dev nD) (x : ℕ) : sProp 𝕄 := bigSep (Finset.Ico x 40) fun B => crd k d B
def toks (k : Fin 6) (d : Dev nD) (x : ℕ) : sProp 𝕄 := bigSep (Finset.Ico x 40) fun B => tok k d B

omit [FloatOps F] in
/-- The next block's credit, out of those to come. -/
theorem crds_pop (k : Fin 6) (d : Dev nD) {x : ℕ} (hx : x < 40) : (crds k d x : sProp 𝕄) ⊢ iprop(crd k d x ∗ crds k d (x + 1)) := by
  unfold crds; rw [ico_pop hx, bigSep_insert (by rw [Finset.mem_Ico]; omega)]; exact .rfl
omit [FloatOps F] in
/-- The next block's token, out of those to come. -/
theorem toks_pop (k : Fin 6) (d : Dev nD) {x : ℕ} (hx : x < 40) : (toks k d x : sProp 𝕄) ⊢ iprop(tok k d x ∗ toks k d (x + 1)) := by
  unfold toks; rw [ico_pop hx, bigSep_insert (by rw [Finset.mem_Ico]; omega)]; exact .rfl

/-- The positions on the five receive cells of kind `k`, the one waited on next first. -/
def posW (k : Fin 6) (d : Dev nD) (b : ℕ) : sProp 𝕄 :=
  iprop(posn k d b ∗ posn k d (b + 1) ∗ posn k d (b + 2) ∗ posn k d (b + 3) ∗ posn k d (b + 4))
/-- A device's places in the rounds of the four slots of a kind that are not next. -/
def posR (k : Fin 6) (d : Dev nD) (b : ℕ) : sProp 𝕄 :=
  iprop(posn k d (b + 1) ∗ posn k d (b + 2) ∗ posn k d (b + 3) ∗ posn k d (b + 4))

omit [FloatOps F] in
/-- The place of the next slot, with the facts that the two after are reached. -/
theorem posW_pop (k : Fin 6) (d : Dev nD) (b : ℕ) :
    (posW k d b : sProp 𝕄) ⊢ iprop((rch k d (b + 1) ∗ rch k d (b + 2)) ∗ posn k d b ∗ posR k d b) := by
  unfold posW posR posn
  iintro ⟨H0, ⟨H1, #R1⟩, ⟨H2, #R2⟩, H3, H4⟩
  isplitr; · isplitl <;> iassumption
  iframe H0 H1 H2 H3 H4 R1 R2
omit [FloatOps F] in
/-- The places after a wait: the slot used comes last. -/
theorem posW_push (k : Fin 6) (d : Dev nD) (b : ℕ) : iprop(posn k d (b + 5) ∗ posR k d b) ⊢ (posW k d (b + 1) : sProp 𝕄) := by
  unfold posW posR
  iintro ⟨H5, H1, H2, H3, H4⟩
  iframe H1 H2 H3 H4 H5
omit [FloatOps F] in
/-- A send cell's round is reached where the device stands. -/
theorem spos_rch (k : Fin 6) (d : Dev nD) (B : ℕ) : (spos k d B : sProp 𝕄) ⊢ iprop(srch k d B ∗ spos k d B) := by
  unfold spos
  iintro ⟨H, #R⟩
  isplitr; · iexact R
  isplitl [H]; · iexact H
  iexact R

omit [FloatOps F] in
/-- The place of the next slot, with the facts that the two furthest are reached. -/
theorem posW_far (k : Fin 6) (d : Dev nD) (b : ℕ) :
    (posW k d b : sProp 𝕄) ⊢ iprop((rch k d (b + 3) ∗ rch k d (b + 4)) ∗ posn k d b ∗ posR k d b) := by
  unfold posW posR posn
  iintro ⟨H0, H1, H2, ⟨H3, #R3⟩, ⟨H4, #R4⟩⟩
  isplitr; · isplitl <;> iassumption
  iframe H0 H1 H2 H3 H4 R3 R4

/-! ## The invariant -/

/-- The rows of the scratch held before step `t`. -/
def region (d : Dev nD) (t : ℕ) : sProp 𝕄 :=
  iprop((ownv X 0 d (t + 2) ∗ ownv X 0 d (t + 3) ∗ away 0 d (t + 4) ∗ early 0 d t ∗ bare 0 d (t + 6))
    ∗ (ownv X 1 d (t + 2) ∗ away 1 d (t + 3) ∗ away 1 d (t + 4) ∗ bare 1 d (t + 5) ∗ bare 1 d (t + 6))
    ∗ (ownv X 2 d (t + 2) ∗ away 2 d (t + 3) ∗ away 2 d (t + 4) ∗ bare 2 d (t + 5) ∗ bare 2 d (t + 6))
    ∗ (away 3 d (t + 2) ∗ away 3 d (t + 3) ∗ bare 3 d (t + 4) ∗ bare 3 d (t + 5) ∗ bare 3 d (t + 6))
    ∗ (away 4 d (t + 2) ∗ away 4 d (t + 3) ∗ bare 4 d (t + 4) ∗ bare 4 d (t + 5) ∗ bare 4 d (t + 6))
    ∗ (away 5 d (t + 2) ∗ away 5 d (t + 3) ∗ away 5 d (t + 4) ∗ early 5 d t ∗ bare 5 d (t + 6)))

/-- The ghost state of the semaphores before step `t`. -/
def ghost (d : Dev nD) (t : ℕ) : sProp 𝕄 :=
  iprop((start d t ∗ heldF d t)
    ∗ (crds 0 d (t + 4) ∗ crds 1 d (t + 3) ∗ crds 2 d (t + 3) ∗ crds 3 d (t + 2) ∗ crds 4 d (t + 2) ∗ crds 5 d (t + 2))
    ∗ (posW 0 d (t + 4) ∗ posW 1 d (t + 3) ∗ posW 2 d (t + 3) ∗ posW 3 d (t + 2) ∗ posW 4 d (t + 2) ∗ posW 5 d (t + 2))
    ∗ (toks 0 d (t + 5) ∗ toks 1 d (t + 4) ∗ toks 2 d (t + 4) ∗ toks 3 d (t + 3) ∗ toks 4 d (t + 3) ∗ toks 5 d (t + 5))
    ∗ (spos 0 d (t + 5) ∗ spos 1 d (t + 4) ∗ spos 2 d (t + 4) ∗ spos 3 d (t + 3) ∗ spos 4 d (t + 3) ∗ spos 5 d (t + 5)))

/-- The invariant before step `t`: the ghost state and the rows of the scratch. -/
def Inv (d : Dev nD) (t : ℕ) : sProp 𝕄 := iprop(ghost d t ∗ region X d t)

/-! ## The body -/

omit [FloatOps F] in
/-- A buffer held with a reading is held with contents that read so. -/
theorem owns_open (d : Dev nD) {sp : Space} {s : Shape} {e : EltTy} (m : Memref sig .tc sp s e) (A : s.Idx → Elt F e) :
    owns (d : Thread nD τ) m fullShare A
      ⊢ (iprop(∃ f, ⌜m.view.read (Elt F) f = A⌝ ∗ (m.view.loc (d : Thread nD τ) ↦[m.view.set]{fullShare} f)) : sProp 𝕄) := .rfl
omit [FloatOps F] in
/-- A buffer held with contents is held with their reading. -/
theorem owns_close (d : Dev nD) {sp : Space} {s : Shape} {e : EltTy} (m : Memref sig .tc sp s e) (A : s.Idx → Elt F e)
    (f : Buf (Elt F) (m.view.loc (d : Thread nD τ))) (h : m.view.read (Elt F) f = A) :
    (m.view.loc (d : Thread nD τ) ↦[m.view.set]{fullShare} f) ⊢ (owns (d : Thread nD τ) m fullShare A : sProp 𝕄) := by
  unfold owns
  iintro H; iexists f; isplitr; · ipureintro; exact h
  iexact H
omit [FloatOps F] in
/-- The rows of the next block's landing, a step later. -/
theorem early_succ (k : Fin 6) (d : Dev nD) (t : ℕ) : (early k d (t + 1) : sProp 𝕄) = away k d (t + 6) := by
  unfold early; rw [if_neg (by omega)]

section

variable (t : Fin cfg0.N) {m1 m2 m4 m5 : Memref sig .tc .vmem S512x2048 .f32} {m3 : Memref sig .tc .vmem S1x2048 .f32} {hm1 hm2 hm3 hm4 hm5 h6}

/-- The kernel's arithmetic on its place, whose values only the printed offsets read. -/
theorem part7 (d : Dev nD) (Pre : sProp 𝕄) (Φ) (h : ∀ r, r.2.1 = d → (Pre ⊢ Φ r)) : Pre ⊢ wpd d (k0_part7_skel (F := F) (grid0.coords t) m1 hm1 m2 hm2 m3 hm3 m4 hm4 m5 hm5 (Memref.whole cc0_scratch0) h6 cc0_scratch1 cc0_scratch2) Φ := by
  unfold k0_part7_skel
  simp only [Prog.lift, Prog.bind_op, Prog.bind_ret, Prog.pure_eq_ret, wp_deviceId, wp_ret]
  iintro H
  imodintro
  iapply (h _ rfl)
  iexact H

/-- The last part of a step has no effect. -/
theorem part8 (d : Dev nD) {v17 v34 v35 b0 b1 : BitVec 32} (Pre : sProp 𝕄) (Φ) (h : ∀ r, (Pre ⊢ Φ r)) :
    Pre ⊢ wpd d (k0_part8_skel (F := F) (grid0.coords t) m1 hm1 m2 hm2 m3 hm3 m4 hm4 m5 hm5 (Memref.whole cc0_scratch0) h6 cc0_scratch1 cc0_scratch2 v17 v34 v35 b0 b1) Φ := by
  unfold k0_part8_skel
  simp only [Prog.lift, Prog.bind_op, Prog.bind_ret, Prog.pure_eq_ret, wp_ret]
  iintro H
  imodintro
  iapply (h _)
  iexact H

end

set_option maxHeartbeats 4000000 in
/-- The step: from the invariant before it to the one after it. -/
theorem step (K : GSem nD τ sig → ℕ) (d : Dev nD) (t : Fin cfg0.N)
    {m1 m2 m4 m5 : Memref sig .tc .vmem S512x2048 .f32} {m3 : Memref sig .tc .vmem S1x2048 .f32} {hm1 hm2 hm3 hm4 hm5 h6}
    (hm : m1 = stg t.val) (A P R : S512x2048.Idx → Elt F .f32) (G : S1x2048.Idx → Elt F .f32)
    (hA : InR (t.val + 5) → ∀ i : S512x2048.Idx, A i = blkOf X d t.val (i 0).val (i 1)) (E : sProp 𝕄)
    (hE : E ⊢ iprop(∃ f, m5.view.loc (d : Thread nD τ) ↦[m5.view.set]{fullShare} f)) :
    iprop((invs X K ∗ levAts L lv) ∗ Inv X d t.val ∗ ow d (owed d t.val) ∗ owns (d : Thread nD τ) m1 fullShare A
        ∗ owns (d : Thread nD τ) m2 fullShare R ∗ owns (d : Thread nD τ) m3 fullShare G ∗ owns (d : Thread nD τ) m4 fullShare P ∗ E)
      ⊢ wpd d (cc0_body (F := F) (grid0.coords t) m1 hm1 m2 hm2 m3 hm3 m4 hm4 m5 hm5 (Memref.whole cc0_scratch0) h6 cc0_scratch1 cc0_scratch2) (fun _ =>
        iprop(Inv X d (t.val + 1) ∗ ow d (owed d (t.val + 1)) ∗ owns (d : Thread nD τ) m1 fullShare A
          ∗ owns (d : Thread nD τ) m2 fullShare R ∗ owns (d : Thread nD τ) m3 fullShare G ∗ owns (d : Thread nD τ) m4 fullShare P
          ∗ wrote X d t.val m5 P R G E)) := by
  have ht := lt19 t
  rw [cc0_body_eq_skeleton]
  unfold cc0_body_skel
  rw [k0_part7_eq_skeleton, k0_part8_eq_skeleton, k0_part9_eq_skeleton, k0_part2_eq_skeleton, k0_part3_eq_skeleton,
    k0_part4_eq_skeleton, k0_part5_eq_skeleton, k0_part6_eq_skeleton, wpd, wp_bind]
  refine part7 t d _ _ fun r hr => ?_
  obtain ⟨a0, d0, v2, v5, v8, v13, v15, v17, v34, v35, b0, b1⟩ := r
  obtain rfl : d0 = d := hr
  dsimp -zeta only
  rw [wp_bind]
  refine part8 t d0 _ _ fun r => ?_
  obtain ⟨v49, v66, v70, v75, v76⟩ := r
  dsimp -zeta only
  rw [wp_bind]
  rename' d0 => d
  unfold Inv ghost region
  iintro ⟨⟨#HV, #HL⟩, ⟨⟨⟨S, HF⟩, ⟨C0, C1, C2, C3, C4, C5⟩, ⟨W0, W1, W2, W3, W4, W5⟩, ⟨T0, T1, T2, T3, T4, T5⟩, ⟨Z0, Z1, Z2, Z3, Z4, Z5⟩⟩,
      ⟨A02, A03, A04, A05, A06⟩, ⟨A12, A13, A14, A15, A16⟩, ⟨A22, A23, A24, A25, A26⟩, ⟨A32, A33, A34, A35, A36⟩, ⟨A42, A43, A44, A45, A46⟩,
      ⟨A52, A53, A54, A55, A56⟩⟩, HO, M1, M2, M3, M4, ME⟩
  ihave ⟨c0, C0⟩ := (crds_pop 0 d (x := t.val + 4) (by omega)) $$ C0
  ihave ⟨c1, C1⟩ := (crds_pop 1 d (x := t.val + 3) (by omega)) $$ C1
  ihave ⟨c2, C2⟩ := (crds_pop 2 d (x := t.val + 3) (by omega)) $$ C2
  ihave ⟨c3, C3⟩ := (crds_pop 3 d (x := t.val + 2) (by omega)) $$ C3
  ihave ⟨c4, C4⟩ := (crds_pop 4 d (x := t.val + 2) (by omega)) $$ C4
  ihave ⟨c5, C5⟩ := (crds_pop 5 d (x := t.val + 2) (by omega)) $$ C5
  ihave ⟨t0, T0⟩ := (toks_pop 0 d (x := t.val + 5) (by omega)) $$ T0
  ihave ⟨t1, T1⟩ := (toks_pop 1 d (x := t.val + 4) (by omega)) $$ T1
  ihave ⟨t2, T2⟩ := (toks_pop 2 d (x := t.val + 4) (by omega)) $$ T2
  ihave ⟨t3, T3⟩ := (toks_pop 3 d (x := t.val + 3) (by omega)) $$ T3
  ihave ⟨t4, T4⟩ := (toks_pop 4 d (x := t.val + 3) (by omega)) $$ T4
  ihave ⟨t5, T5⟩ := (toks_pop 5 d (x := t.val + 5) (by omega)) $$ T5
  ihave ⟨⟨#R05, #R06⟩, p0, W0⟩ := (posW_pop 0 d (t.val + 4)) $$ W0
  ihave ⟨⟨-, #R15⟩, p1, W1⟩ := (posW_pop 1 d (t.val + 3)) $$ W1
  ihave ⟨⟨-, #R25⟩, p2, W2⟩ := (posW_pop 2 d (t.val + 3)) $$ W2
  ihave ⟨⟨-, #R34⟩, p3, W3⟩ := (posW_pop 3 d (t.val + 2)) $$ W3
  ihave ⟨⟨-, #R44⟩, p4, W4⟩ := (posW_pop 4 d (t.val + 2)) $$ W4
  ihave ⟨⟨#R55, #R56⟩, p5, W5⟩ := (posW_far 5 d (t.val + 2)) $$ W5
  ihave ⟨#S0, Z0⟩ := (spos_rch 0 d (t.val + 5)) $$ Z0
  ihave ⟨#S1, Z1⟩ := (spos_rch 1 d (t.val + 4)) $$ Z1
  ihave ⟨#S2, Z2⟩ := (spos_rch 2 d (t.val + 4)) $$ Z2
  ihave ⟨#S3, Z3⟩ := (spos_rch 3 d (t.val + 3)) $$ Z3
  ihave ⟨#S4, Z4⟩ := (spos_rch 4 d (t.val + 3)) $$ Z4
  ihave ⟨#S5, Z5⟩ := (spos_rch 5 d (t.val + 5)) $$ Z5
  iapply (cps d (waiting X K d t)) $$ [S HO A05 A55 A15 A25 c0 p0 A04 c1 c2 p1 p2 A13 A23 HF]
  · isplitr; · iframe HV HL
    unfold preW pre0 owed
    iframe S HO A05 A55 A15 A25 c0 p0 A04 c1 c2 p1 p2 A13 A23 HF R05 R55 R15 R25
  unfold postW postF
  iintro %a ⟨⟨S, HF, E0, E5, N1, N2⟩, ⟨p0, O0, Q0, Q5⟩, HO, ⟨p1, p2⟩, ⟨O1, O2⟩, Q1, Q2, Q3, Q4⟩
  obtain ⟨v81, v82, v92, v107, v109, b2⟩ := a
  dsimp -zeta only
  extract_lets
  rw [sends_pop d ht]
  ihave ⟨%f1, %h1, M1⟩ := (owns_open d m1 A) $$ M1
  ihave ⟨⟨H0, H5⟩, MS⟩ := (lend m1 d f1) $$ M1
  have hf : InR (t.val + 5) → ∀ i : S512x2048.Idx, m1.view.read (Elt F) f1 i = blkOf X d t.val (i 0).val (i 1) := fun h i => (congrFun h1 i).trans (hA h i)
  iapply (when_cpk d (cond4_iff t) (I := invs X K) (Pre := preT d t.val (sends d (t.val + 1) + due 4 d (t.val + 3) + due 3 d (t.val + 3) + due 2 d (t.val + 4) + due 1 d (t.val + 4)) m1 f1)
    (Post := postT d t.val (sends d (t.val + 1) + due 4 d (t.val + 3) + due 3 d (t.val + 3) + due 2 d (t.val + 4) + due 1 d (t.val + 4)))
    (fun h hR => cpk d _ (t_send X K d hR _ m1 hm f1 (hf hR) (dev4_eq d) (dev5_eq d) (sendS_eq _ 0 rfl _) (recvS_eq _ _ 0 (off8_eq t) _) (sendS_eq _ 5 rfl _) (recvS_eq _ _ 5 (off11_eq t) _)
      (off9_eq t) (off10_eq d) rfl (off12_eq d) rfl))
    (fun h => t_skip d h _ m1 hm f1)) $$ [H0 H5 Q0 Q5 A06 A56 HO t0 t5]
  · isplitr; · iexact HV
    unfold preT
    iframe H0 H5 Q0 Q5 A06 A56 HO t0 t5 R06 R56 S0 S5
  unfold postT
  iintro ⟨LL, ⟨F0, F5⟩, HO, s0, s5⟩
  iapply (when_cpk d (cond5_iff t) (I := invs X K) (Pre := preU X d t.val (sends d (t.val + 1) + due 4 d (t.val + 3) + due 3 d (t.val + 3)))
    (Post := postU d t.val (sends d (t.val + 1) + due 4 d (t.val + 3) + due 3 d (t.val + 3)))
    (fun h hR => cpk d _ (u_send X K d hR _ (dev6_eq d) (dev7_eq d) (sendS_eq _ 1 rfl _) (recvS_eq _ _ 1 (off13_eq t) _) (sendS_eq _ 2 rfl _) (recvS_eq _ _ 2 (off16_eq t) _)
      (off14_eq t) (off15_eq d) rfl (off15_eq' d) rfl))
    (fun h => u_skip X d h _)) $$ [O0 Q1 Q2 N1 N2 A34 A44 HO t1 t2]
  · isplitr; · iexact HV
    unfold preU
    iframe O0 Q1 Q2 N1 N2 A34 A44 HO t1 t2 R15 R25 R34 R44 S1 S2
  unfold postU
  iintro ⟨K0, ⟨F1, F2, F3, F4⟩, HO, s1, s2⟩
  iapply (when_cpk d (cond6_iff t) (I := invs X K) (Pre := preV X d t.val (sends d (t.val + 1)))
    (Post := postV X d t.val (sends d (t.val + 1)))
    (fun h hR => cpk d _ (v_send X K d hR _ (dev8_eq d) (dev9_eq d) (sendS_eq _ 3 rfl _) (recvS_eq _ _ 3 (off17_eq t) _) (sendS_eq _ 4 rfl _) (recvS_eq _ _ 4 (off20_eq t) _)
      (off18_eq t) (off19_eq d) rfl (off21_eq d) rfl))
    (fun h => v_skip X d h _)) $$ [O1 O2 Q3 Q4 HO t3 t4]
  · isplitr; · iexact HV
    unfold preV
    iframe O1 O2 Q3 Q4 HO t3 t4 S3 S4
  unfold postV
  iintro ⟨KK, HO, s3, s4⟩
  iapply (when_cpk d (cond7_iff t) (I := iprop(invs X K ∗ levAts L lv))
    (Pre := iprop(preC X d t.val (sends d (t.val + 1)) ∗ owns (d : Thread nD τ) m4 fullShare P ∗ owns (d : Thread nD τ) m2 fullShare R
      ∗ owns (d : Thread nD τ) m3 fullShare G ∗ E))
    (Post := iprop(postC d t.val (sends d (t.val + 1)) ∗ owns (d : Thread nD τ) m4 fullShare P ∗ owns (d : Thread nD τ) m2 fullShare R
      ∗ owns (d : Thread nD τ) m3 fullShare G ∗ wrote X d t.val m5 P R G E))
    (fun h hR => cpk d _ (c_run X K d hR ((High.sends d (t.val + 1)).mono (by omega)) m2 m4 m5 m3 P R G E hE
      (recvS_eq _ _ 5 (off22_eq t) _) (recvS_eq _ _ 3 (off25_eq t) _) (recvS_eq _ _ 4 (off27_eq t) _) (slab_credit 5 _ _ _ _ _ rfl) (slab_credit 3 _ _ _ _ _ rfl) (slab_credit 4 _ _ _ _ _ rfl) (off28_eq t)))
    (fun h => c_skip X d ht h _ m2 m4 m5 m3 P R G E)) $$ [c5 c3 c4 HO p5 p3 p4 A52 A32 A42 A02 A12 A22 M4 M2 M3 ME]
  · isplitr; · iframe HV HL
    unfold preC
    iframe c5 c3 c4 HO p5 p3 p4 A52 A32 A42 A02 A12 A22 M4 M2 M3 ME
  unfold postC
  iintro ⟨⟨HO, ⟨p5, p3, p4⟩, B0, B1, B2, B3, B4, B5⟩, M4, M2, M3, ME⟩
  iapply (when_cpk d (cond8_iff t) (I := iprop(invs X K ∗ levAts L lv)) (Pre := preS 0 5 d (t.val + 5) (sends d (t.val + 1)))
    (Post := postS X 0 5 d (t.val + 5) (sends d (t.val + 1)))
    (fun h hR => cpk d _ (s_wait X K 0 5 d hR (High.sends d (t.val + 1)) (by omega) (sendS_eq _ 0 rfl _) (sendS_eq _ 5 rfl _) (stage_credit _ 0 _ _ _ rfl) (stage_credit _ 5 _ _ _ rfl)))
    (fun h => s_skip X 0 5 d h _)) $$ [s0 s5 HO Z0 Z5]
  · isplitr; · iframe HV HL
    unfold preS
    iframe s0 s5 HO Z0 Z5
  unfold postS
  iintro ⟨HO, ⟨Z0, Z5⟩, Y⟩
  ihave PP := (back_stage X d t.val) $$ [LL Y]
  · iframe LL Y
  ihave M1 := (regain m1 d t.val hm f1) $$ [PP MS]
  · iframe PP MS
  iapply (when_cpk d (cond9_iff t) (I := iprop(invs X K ∗ levAts L lv)) (Pre := preS 1 2 d (t.val + 4) (sends d (t.val + 1)))
    (Post := postS X 1 2 d (t.val + 4) (sends d (t.val + 1)))
    (fun h hR => cpk d _ (s_wait X K 1 2 d hR (High.sends d (t.val + 1)) (by omega) (sendS_eq _ 1 rfl _) (sendS_eq _ 2 rfl _) (slab_credit 1 _ _ _ _ _ rfl) (slab_credit 2 _ _ _ _ _ rfl)))
    (fun h => s_skip X 1 2 d h _)) $$ [s1 s2 HO Z1 Z2]
  · isplitr; · iframe HV HL
    unfold preS
    iframe s1 s2 HO Z1 Z2
  unfold postS
  iintro ⟨HO, ⟨Z1, Z2⟩, Y⟩
  ihave O0 := (back_full X d (t.val + 4)) $$ [K0 Y]
  · iframe K0 Y
  iapply (when_cpk d (cond10_iff t) (I := iprop(invs X K ∗ levAts L lv)) (Pre := preS 3 4 d (t.val + 3) (sends d (t.val + 1)))
    (Post := postS X 3 4 d (t.val + 3) (sends d (t.val + 1)))
    (fun h hR => cpk d _ (s_wait X K 3 4 d hR (High.sends d (t.val + 1)) (by omega) (sendS_eq _ 3 rfl _) (sendS_eq _ 4 rfl _) (slab_credit 3 _ _ _ _ _ rfl) (slab_credit 4 _ _ _ _ _ rfl)))
    (fun h => s_skip X 3 4 d h _)) $$ [s3 s4 HO Z3 Z4]
  · isplitr; · iframe HV HL
    unfold preS
    iframe s3 s4 HO Z3 Z4
  unfold postS
  iintro ⟨HO, ⟨Z3, Z4⟩, Y⟩
  ihave ⟨O1, O2⟩ := (back_halves X d (t.val + 3)) $$ [KK Y]
  · iframe KK Y
  ihave W0 := (posW_push 0 d (t.val + 4)) $$ [p0 W0]
  · iframe p0 W0
  ihave W1 := (posW_push 1 d (t.val + 3)) $$ [p1 W1]
  · iframe p1 W1
  ihave W2 := (posW_push 2 d (t.val + 3)) $$ [p2 W2]
  · iframe p2 W2
  ihave W3 := (posW_push 3 d (t.val + 2)) $$ [p3 W3]
  · iframe p3 W3
  ihave W4 := (posW_push 4 d (t.val + 2)) $$ [p4 W4]
  · iframe p4 W4
  ihave W5 := (posW_push 5 d (t.val + 2)) $$ [p5 W5]
  · iframe p5 W5
  iapply (wpd_done d _)
  rw [early_succ, early_succ, owed_succ]
  isplitr [HO M1 M2 M3 M4 ME]
  · isplitr [A03 O0 E0 F0 B0 O1 A14 F1 A16 B1 O2 A24 F2 A26 B2 A33 F3 A35 A36 B3 A43 F4 A45 A46 B4 A53 A54 E5 F5 B5]
    · iframe S HF C0 C1 C2 C3 C4 C5 W0 W1 W2 W3 W4 W5 T0 T1 T2 T3 T4 T5 Z0 Z1 Z2 Z3 Z4 Z5
    · iframe A03 O0 E0 F0 B0 O1 A14 F1 A16 B1 O2 A24 F2 A26 B2 A33 F3 A35 A36 B3 A43 F4 A45 A46 B4 A53 A54 E5 F5 B5
  isplitl [HO]; · iexact HO
  isplitl [M1]; · iapply (owns_close d m1 A f1 h1); iexact M1
  iframe M2 M3 M4 ME

end Cert.KernelIdeal.Mesh

end
-- ==== Proof.KernelIdeal.Ends.lean ====
/-
  The invariant's two ends: the scratch cut into its landings and the kernel's cells opened before the first step; the cells
  closed, every counter at zero, and the scratch put together after the last.
-/
module

public import proofs.«01_k».proof.Proof.KernelIdeal.Body

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## The scratch as the thirty landings -/

/-- The rows of kind `k` in all five slots. -/
def bares (k : Fin 6) (d : Dev nD) : sProp 𝕄 :=
  iprop(bare k d 0 ∗ bare k d 1 ∗ bare k d 2 ∗ bare k d 3 ∗ bare k d 4)

/-- The scratch is its thirty landings. -/
theorem univ_eq (d : Dev nD) : (Finset.univ : Finset S5x512x2048.Idx) = Finset.univ.biUnion fun p : Fin 6 × Fin 5 => rg p.1 d p.2.val := by
  ext i
  rw [Finset.mem_biUnion]
  have h0 : (i 0).val < 5 := (i 0).isLt
  have hi : (i 1).val < 512 := (i 1).isLt
  refine ⟨fun _ => ⟨(kindOf d (i 1).val, ⟨(i 0).val, h0⟩), Finset.mem_univ _, mem_rows.mpr ⟨?_, (kindOf_iff d _ hi _).mp rfl⟩⟩, fun _ => Finset.mem_univ _⟩
  exact (Nat.mod_eq_of_lt h0).symm

/-- The thirty landings are disjoint. -/
theorem all_disjoint (d : Dev nD) (p p' : Fin 6 × Fin 5) (h : p ≠ p') : Disjoint (rg p.1 d p.2.val) (rg p'.1 d p'.2.val) := by
  rw [Finset.disjoint_left]
  intro i hi hi'
  have hlt : (i 1).val < 512 := (i 1).isLt
  have hs := (mem_rows.mp hi).1
  have hs' := (mem_rows.mp hi').1
  have e1 := ((kindOf_iff d _ hlt p.1).mpr (mem_rows.mp hi).2).symm.trans ((kindOf_iff d _ hlt p'.1).mpr (mem_rows.mp hi').2)
  have := p.2.isLt
  have := p'.2.isLt
  exact h (Prod.ext e1 (Fin.ext (by omega)))

omit [FloatOps F] in
/-- The thirty landings, by kind. -/
theorem bigSep_bares (d : Dev nD) : (bigSep Finset.univ fun p : Fin 6 × Fin 5 => (bare p.1 d p.2.val : sProp 𝕄))
    = iprop(bares 0 d ∗ bares 1 d ∗ bares 2 d ∗ bares 3 d ∗ bares 4 d ∗ bares 5 d) := by
  rw [bigSep_univ_prod, bigSep_congr (Ψ := fun k => (bares k d : sProp 𝕄)) fun k _ => by
      rw [bigSep_univ_eq_bigSepL [0, 1, 2, 3, 4] (by decide) (by decide)]; rfl,
    bigSep_univ_eq_bigSepL [0, 1, 2, 3, 4, 5] (by decide) (by decide)]
  rfl

omit [FloatOps F] in
/-- The rows of a landing with any contents. -/
theorem bare_of (k : Fin 6) (d : Dev nD) (B : ℕ) (f : Buf (Elt F) (aloc d)) : (aloc d ↦[rg k d B]{fullShare} f) ⊢ (bare k d B : sProp 𝕄) := by
  unfold bare
  iintro H
  iexists f
  iexact H

omit [FloatOps F] in
/-- The whole scratch, cut into its landings; -/
theorem scratch_cut (d : Dev nD) : iprop(∃ f : Buf (Elt F) (aloc d), aloc d ↦{fullShare} f)
    ⊢ (iprop(bares 0 d ∗ bares 1 d ∗ bares 2 d ∗ bares 3 d ∗ bares 4 d ∗ bares 5 d) : sProp 𝕄) := by
  rw [← bigSep_bares]
  iintro ⟨%f, H⟩
  ihave H := (show (aloc d ↦{fullShare} f : sProp 𝕄) ⊢ bigSep Finset.univ fun p : Fin 6 × Fin 5 => (aloc d ↦[rg p.1 d p.2.val]{fullShare} f : sProp 𝕄) from
    Entails.of_eq ((congrArg (fun S => (aloc d ↦[S]{fullShare} f : sProp 𝕄)) (univ_eq d)).trans
      (pointsTo_biUnion _ _ fun k _ k' _ h => all_disjoint d k k' h))) $$ H
  iapply (show (bigSep Finset.univ fun p : Fin 6 × Fin 5 => (aloc d ↦[rg p.1 d p.2.val]{fullShare} f : sProp 𝕄))
    ⊢ bigSep Finset.univ fun p : Fin 6 × Fin 5 => (bare p.1 d p.2.val : sProp 𝕄) from
      bigSep_mono fun p _ => bare_of p.1 d p.2.val f) $$ H

omit [FloatOps F] in
/-- The landings put together are the scratch. -/
theorem scratch_glue (d : Dev nD) [Nonempty (Buf (Elt F) (aloc d))] : (iprop(bares 0 d ∗ bares 1 d ∗ bares 2 d ∗ bares 3 d ∗ bares 4 d ∗ bares 5 d) : sProp 𝕄)
    ⊢ iprop(∃ f : Buf (Elt F) (aloc d), aloc d ↦{fullShare} f) := by
  rw [← bigSep_bares]
  unfold bare
  iintro H
  ihave ⟨%f, H⟩ := (bigSep_exists_pi Finset.univ fun (p : Fin 6 × Fin 5) (f : Buf (Elt F) (aloc d)) => (aloc d ↦[rg p.1 d p.2.val]{fullShare} f : sProp 𝕄)) $$ H
  iexists (fun i : S5x512x2048.Idx => f (kindOf d (i 1).val, i 0) i)
  iapply (show (bigSep Finset.univ fun p : Fin 6 × Fin 5 => (aloc d ↦[rg p.1 d p.2.val]{fullShare} f p : sProp 𝕄)) ⊢ _ from ?_) $$ H
  refine Entails.of_eq ?_
  rw [show (Finset.univ : Finset (aloc d).ty.Idx) = _ from univ_eq d, pointsTo_biUnion _ _ fun k _ k' _ h => all_disjoint d k k' h]
  refine bigSep_congr fun p _ => pointsTo_congr fun i hi => ?_
  have hlt : (i 1).val < 512 := (i 1).isLt
  have h1 := (kindOf_iff d _ hlt p.1).mpr (mem_rows.mp hi).2
  have h0 : i 0 = p.2 := Fin.ext ((mem_rows.mp hi).1.trans (Nat.mod_eq_of_lt p.2.isLt))
  show f p i = f (kindOf d (i 1).val, i 0) i
  rw [h1, h0]

omit [FloatOps F] in
/-- and put together again. -/
theorem scratch_join (d : Dev nD) : (iprop(bares 0 d ∗ bares 1 d ∗ bares 2 d ∗ bares 3 d ∗ bares 4 d ∗ bares 5 d) : sProp 𝕄)
    ⊢ iprop(∃ f : Buf (Elt F) (aloc d), aloc d ↦{fullShare} f) := by
  iintro ⟨HB, HR⟩
  unfold bares
  icases HB with ⟨H0, HA⟩
  ihave ⟨%f, H0⟩ := (show (bare 0 d 0 : sProp 𝕄) ⊢ iprop(∃ f : Buf (Elt F) (aloc d), aloc d ↦[rg 0 d 0]{fullShare} f) from Entails.of_eq rfl) $$ H0
  haveI : Nonempty (Buf (Elt F) (aloc d)) := ⟨f⟩
  iapply (scratch_glue d)
  isplitr [HR]
  · unfold bares
    isplitl [H0]
    · iapply (show iprop(∃ f : Buf (Elt F) (aloc d), aloc d ↦[rg 0 d 0]{fullShare} f) ⊢ (bare 0 d 0 : sProp 𝕄) from Entails.of_eq rfl)
      iexists f
      iexact H0
    iexact HA
  iexact HR

omit [FloatOps F] in
/-- The rows of a landing depend on the slot alone. -/
theorem bare_mod (k : Fin 6) (d : Dev nD) {B B' : ℕ} (h : B % 5 = B' % 5) : (bare k d B : sProp 𝕄) = bare k d B' := by
  unfold bare; rw [rg_congr h]

omit [FloatOps F] in
/-- Before the first step every landing is the device's own. -/
theorem region_start (d : Dev nD) : iprop(∃ f : Buf (Elt F) (aloc d), aloc d ↦{fullShare} f) ⊢ (region X d 0 : sProp 𝕄) := by
  have o : ∀ k B, B < 5 → (ownv X k d B : sProp 𝕄) = bare k d B := fun k B h => if_neg fun h' => by omega
  have a : ∀ k B, B < 5 → (away k d B : sProp 𝕄) = bare k d B := fun k B h => if_neg fun h' => by omega
  have e : ∀ k, (early k d 0 : sProp 𝕄) = bare k d 0 := fun k => (if_pos rfl).trans (bare_mod k d rfl)
  refine (scratch_cut d).trans ?_
  unfold region bares
  simp only [Nat.zero_add, o _ 2 (by omega), o _ 3 (by omega), a _ 2 (by omega), a _ 3 (by omega), a _ 4 (by omega), e,
    bare_mod _ d (show 5 % 5 = 0 % 5 from rfl), bare_mod _ d (show 6 % 5 = 1 % 5 from rfl)]
  iintro ⟨⟨A0, A1, A2, A3, A4⟩, ⟨B0, B1, B2, B3, B4⟩, ⟨C0, C1, C2, C3, C4⟩, ⟨D0, D1, D2, D3, D4⟩, ⟨E0, E1, E2, E3, E4⟩, ⟨F0, F1, F2, F3, F4⟩⟩
  iframe A0 A1 A2 A3 A4 B0 B1 B2 B3 B4 C0 C1 C2 C3 C4 D0 D1 D2 D3 D4 E0 E1 E2 E3 E4 F0 F1 F2 F3 F4

omit [FloatOps F] in
/-- After the last step every landing is its own again. -/
theorem region_end (d : Dev nD) : (region X d 19 : sProp 𝕄) ⊢ iprop(∃ f : Buf (Elt F) (aloc d), aloc d ↦{fullShare} f) := by
  have o : ∀ k B, 21 ≤ B → (ownv X k d B : sProp 𝕄) = bare k d B := fun k B h => if_neg fun h' => by omega
  have a : ∀ k B, 21 ≤ B → (away k d B : sProp 𝕄) = bare k d B := fun k B h => if_neg fun h' => by omega
  have e : ∀ k, (early k d 19 : sProp 𝕄) = bare k d 24 := fun k => (if_neg (by omega)).trans (a k 24 (by omega))
  iintro H
  iapply (scratch_join d)
  unfold region bares
  simp only [Nat.reduceAdd, o _ 21 (by omega), o _ 22 (by omega), a _ 21 (by omega), a _ 22 (by omega), a _ 23 (by omega), e,
    bare_mod _ d (show 21 % 5 = 1 % 5 from rfl), bare_mod _ d (show 22 % 5 = 2 % 5 from rfl), bare_mod _ d (show 23 % 5 = 3 % 5 from rfl),
    bare_mod _ d (show 24 % 5 = 4 % 5 from rfl), bare_mod _ d (show 25 % 5 = 0 % 5 from rfl)]
  icases H with ⟨⟨A0, A1, A2, A3, A4⟩, ⟨B0, B1, B2, B3, B4⟩, ⟨C0, C1, C2, C3, C4⟩, ⟨D0, D1, D2, D3, D4⟩, ⟨E0, E1, E2, E3, E4⟩, ⟨F0, F1, F2, F3, F4⟩⟩
  iframe A0 A1 A2 A3 A4 B0 B1 B2 B3 B4 C0 C1 C2 C3 C4 D0 D1 D2 D3 D4 E0 E1 E2 E3 E4 F0 F1 F2 F3 F4

/-! ## The cells opened and closed -/

/-- The kernel's own semaphores: of each kind, the receive semaphores of the five slots, and the send semaphore. -/
def osem (p : Fin 6 × Fin 6) : SemLoc sig := if p.2.val < 5 then .dma (recvS p.2.val p.1) else .dma (sendS p.1)

/-- A cell at its first round. -/
def fresh (g : GSem nD τ sig) : sProp 𝕄 := iprop(atPos ER g 0 ∅ 0 ∗ reached ER g 0)

omit [FloatOps F] in
/-- A resource per semaphore of the kernel, by kind. -/
theorem bigSep_osem (Φ : SemLoc sig → sProp 𝕄) : (bigSep Finset.univ fun p : Fin 6 × Fin 6 => Φ (osem p))
    = bigSep Finset.univ fun k : Fin 6 => iprop(Φ (.dma (recvS 0 k)) ∗ Φ (.dma (recvS 1 k)) ∗ Φ (.dma (recvS 2 k)) ∗ Φ (.dma (recvS 3 k))
        ∗ Φ (.dma (recvS 4 k)) ∗ Φ (.dma (sendS k))) := by
  rw [bigSep_univ_prod]
  refine bigSep_congr fun k _ => ?_
  rw [bigSep_univ_eq_bigSepL [0, 1, 2, 3, 4, 5] (by decide) (by decide)]
  rfl

omit [FloatOps F] in
/-- A resource per kind, written out. -/
theorem bigSep_kinds (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  rfl

/-- The kernel's semaphores are copies' semaphores past the pipeline's nine. -/
theorem osem_mem : ∀ p : Fin 6 × Fin 6, ∃ q : DmaSem sig, osem p = .dma q ∧ 9 ≤ q.val := by decide +kernel

/-- The kernel's cells are among those with an invariant. -/
theorem cell_mem (d : Dev nD) (p : Fin 6 × Fin 6) : (((d : Thread nD τ), osem p) : GSem nD τ sig) ∈ barCells ∪ dmaCells := by
  obtain ⟨q, hq, h⟩ := osem_mem p
  rw [hq]
  exact Finset.mem_union_right _ (mem_dma d q h)

omit [FloatOps F] in
/-- Every cell of a device opened, its counter at zero put in. -/
theorem open_cells (K : GSem nD τ sig → ℕ) (d : Dev nD) :
    iprop(invs X K ∗ bigSep Finset.univ fun p => iprop(openTok ER ((d : Thread nD τ), osem p) ∗ semVal ((d : Thread nD τ), osem p) 0))
      ⊢ (|={Set.univ}=> bigSep Finset.univ fun p => fresh ((d : Thread nD τ), osem p) : sProp 𝕄) := by
  refine (bigSep_with_persistent (Ψ := fun p => iprop(|={Set.univ}=> fresh ((d : Thread nD τ), osem p))) fun p _ => ?_).trans (bigSep_fupd _ _)
  unfold fresh
  iintro ⟨#HI, Ho, Hv⟩
  iapply (Rounds.cell_open ER (rd X) (κ := K ((d : Thread nD τ), osem p)) (Set.mem_univ _))
  isplitr; · iapply (inv_of X K (cell_mem d p)); iexact HI
  isplitl [Ho] <;> iassumption

omit [FloatOps F] in
/-- The positions of one kind at the start. -/
theorem posW_start (k : Fin 6) (d : Dev nD) {b x : ℕ} (hb : 2 ≤ b ∧ b ≤ 4) (hx : x ≤ 5) :
    iprop(fresh (recvCell k d 0) ∗ fresh (recvCell k d 1) ∗ fresh (recvCell k d 2) ∗ fresh (recvCell k d 3) ∗ fresh (recvCell k d 4) ∗ fresh (sendCell k d))
      ⊢ (iprop(posW k d b ∗ spos k d x) : sProp 𝕄) := by
  have hp : ∀ B, B < 10 → (posn k d B : sProp 𝕄) = fresh (recvCell k d B) := fun B h => by
    unfold posn fresh; rw [show rnd B = 0 by unfold rnd; split_ifs <;> omega]
  have hs : (spos k d x : sProp 𝕄) = fresh (sendCell k d) := by unfold spos fresh; rw [show min (x - 5) 16 = 0 by omega]
  have hc : ∀ B, recvCell k d (B + 5) = recvCell k d B := fun B => by unfold recvCell recvS; simp
  unfold posW
  rw [hs, hp b (by omega), hp (b + 1) (by omega), hp (b + 2) (by omega), hp (b + 3) (by omega), hp (b + 4) (by omega)]
  obtain rfl | rfl | rfl : b = 2 ∨ b = 3 ∨ b = 4 := by omega
  all_goals
    iintro ⟨H0, H1, H2, H3, H4, HS⟩
    simp only [Nat.reduceAdd, hc 0, hc 1, hc 2, hc 3]
    iframe H0 H1 H2 H3 H4 HS

omit [FloatOps F] in
/-- A receive cell closed after its last round gives its counter back at zero. -/
theorem close_recv (K : GSem nD τ sig → ℕ) (k : Fin 6) (d : Dev nD) {B : ℕ} (h : 21 ≤ B) (hB : B < 31) :
    iprop(invs X K ∗ posn k d B) ⊢ (|={Set.univ}=> semVal (recvCell k d B) 0 : sProp 𝕄) := by
  unfold posn
  iintro ⟨#HI, Hp, -⟩
  iapply (Rounds.cell_close ER (rd X) (κ := K (recvCell k d B)) (Set.mem_univ _) id (duties_recv_later X d k h hB))
  isplitr; · iapply (inv_recv X K k d B); iexact HI
  iexact Hp

omit [FloatOps F] in
/-- A send cell closed after its last round gives its counter back at zero. -/
theorem close_send (K : GSem nD τ sig → ℕ) (k : Fin 6) (d : Dev nD) {x : ℕ} (h : 21 ≤ x) :
    iprop(invs X K ∗ spos k d x) ⊢ (|={Set.univ}=> semVal (sendCell k d) 0 : sProp 𝕄) := by
  unfold spos
  rw [show min (x - 5) 16 = 16 by omega]
  iintro ⟨#HI, Hp, -⟩
  iapply (Rounds.cell_close ER (rd X) (κ := K (sendCell k d)) (Set.mem_univ _) id (duties_send_later X d k))
  isplitr; · iapply (inv_send X K k d); iexact HI
  iexact Hp

omit [FloatOps F] in
/-- The barrier cell closed after the handshake gives its counter back at zero. -/
theorem close_bar (K : GSem nD τ sig → ℕ) (d : Dev nD) :
    iprop(invs X K ∗ atPos ER (barCell d) 1 ∅ 0) ⊢ (|={Set.univ}=> semVal (barCell d) 0 : sProp 𝕄) := by
  iintro ⟨#HI, Hp⟩
  iapply (Rounds.cell_close ER (rd X) (κ := K (barCell d)) (Set.mem_univ _) id (duties_bar_later X d))
  isplitr; · iapply (inv_bar X K d); iexact HI
  iexact Hp

/-- The counters of one kind at zero. -/
def zeros (k : Fin 6) (d : Dev nD) : sProp 𝕄 :=
  iprop(semVal (recvCell k d 0) 0 ∗ semVal (recvCell k d 1) 0 ∗ semVal (recvCell k d 2) 0 ∗ semVal (recvCell k d 3) 0
    ∗ semVal (recvCell k d 4) 0 ∗ semVal (sendCell k d) 0)

omit [FloatOps F] in
/-- The cells of one kind closed after the last step. -/
theorem posW_end (K : GSem nD τ sig → ℕ) (k : Fin 6) (d : Dev nD) {b x : ℕ} (hb : 21 ≤ b ∧ b ≤ 23) (hx : 21 ≤ x) :
    iprop(invs X K ∗ posW k d b ∗ spos k d x) ⊢ (|={Set.univ}=> zeros k d : sProp 𝕄) := by
  have hc : ∀ B B', B % 5 = B' % 5 → recvCell k d B = recvCell k d B' := fun B B' h => by unfold recvCell recvS; simp only [h]
  unfold posW zeros
  iintro ⟨#HI, ⟨H0, H1, H2, H3, H4⟩, HS⟩
  imod (close_recv X K k d (B := b) (by omega) (by omega)) $$ [H0] with H0
  · isplitr; · iexact HI
    iexact H0
  imod (close_recv X K k d (B := b + 1) (by omega) (by omega)) $$ [H1] with H1
  · isplitr; · iexact HI
    iexact H1
  imod (close_recv X K k d (B := b + 2) (by omega) (by omega)) $$ [H2] with H2
  · isplitr; · iexact HI
    iexact H2
  imod (close_recv X K k d (B := b + 3) (by omega) (by omega)) $$ [H3] with H3
  · isplitr; · iexact HI
    iexact H3
  imod (close_recv X K k d (B := b + 4) (by omega) (by omega)) $$ [H4] with H4
  · isplitr; · iexact HI
    iexact H4
  imod (close_send X K k d (x := x) hx) $$ [HS] with HS
  · isplitr; · iexact HI
    iexact HS
  imodintro
  obtain rfl | rfl | rfl : b = 21 ∨ b = 22 ∨ b = 23 := by omega
  all_goals
    simp only [Nat.reduceAdd, hc 21 1 rfl, hc 22 2 rfl, hc 23 3 rfl, hc 24 4 rfl, hc 25 0 rfl, hc 26 1 rfl, hc 27 2 rfl]
    iframe H0 H1 H2 H3 H4 HS

/-! ## The invariant's ends -/

/-- What a device brings to the first step beside its scratch and its cells: the handshake's state, the credits of its waits,
    the tokens of its sends. -/
def brought (d : Dev nD) : sProp 𝕄 :=
  iprop(start d 0 ∗ (crds 0 d 4 ∗ crds 1 d 3 ∗ crds 2 d 3 ∗ crds 3 d 2 ∗ crds 4 d 2 ∗ crds 5 d 2)
    ∗ (toks 0 d 5 ∗ toks 1 d 4 ∗ toks 2 d 4 ∗ toks 3 d 3 ∗ toks 4 d 3 ∗ toks 5 d 5))

omit [FloatOps F] in
/-- The invariant before step 0, from what a device brings and the scratch. -/
theorem Inv_start (d : Dev nD) :
    iprop(brought d ∗ (bigSep Finset.univ fun p => fresh ((d : Thread nD τ), osem p)) ∗ ∃ f : Buf (Elt F) (aloc d), aloc d ↦{fullShare} f)
      ⊢ (Inv X d 0 : sProp 𝕄) := by
  rw [bigSep_osem fun s => fresh ((d : Thread nD τ), s), bigSep_kinds]
  unfold Inv ghost brought
  rw [show (heldF d 0 : sProp 𝕄) = iprop(emp) from if_neg (by omega)]
  simp only [Nat.zero_add]
  iintro ⟨⟨S, ⟨C0, C1, C2, C3, C4, C5⟩, ⟨T0, T1, T2, T3, T4, T5⟩⟩, ⟨H0, H1, H2, H3, H4, H5⟩, HR⟩
  ihave ⟨W0, Z0⟩ := (posW_start 0 d (b := 4) (x := 5) (by omega) (by omega)) $$ [H0]
  · iexact H0
  ihave ⟨W1, Z1⟩ := (posW_start 1 d (b := 3) (x := 4) (by omega) (by omega)) $$ [H1]
  · iexact H1
  ihave ⟨W2, Z2⟩ := (posW_start 2 d (b := 3) (x := 4) (by omega) (by omega)) $$ [H2]
  · iexact H2
  ihave ⟨W3, Z3⟩ := (posW_start 3 d (b := 2) (x := 3) (by omega) (by omega)) $$ [H3]
  · iexact H3
  ihave ⟨W4, Z4⟩ := (posW_start 4 d (b := 2) (x := 3) (by omega) (by omega)) $$ [H4]
  · iexact H4
  ihave ⟨W5, Z5⟩ := (posW_start 5 d (b := 2) (x := 5) (by omega) (by omega)) $$ [H5]
  · iexact H5
  ihave HR := (region_start X d) $$ HR
  isplitr [HR]
  · isplitl [S]
    · isplitl [S]; · iexact S
      iempintro
    iframe C0 C1 C2 C3 C4 C5 W0 W1 W2 W3 W4 W5 T0 T1 T2 T3 T4 T5 Z0 Z1 Z2 Z3 Z4 Z5
  iexact HR

/-- What the device holds after the last step: its barrier counter and its own semaphores at zero, its scratch. -/
def Final (d : Dev nD) : sProp 𝕄 :=
  iprop(semVal (barCell d) 0 ∗ (bigSep Finset.univ fun p => semVal ((d : Thread nD τ), osem p) 0) ∗ ∃ f : Buf (Elt F) (aloc d), aloc d ↦{fullShare} f)

omit [FloatOps F] in
/-- After the last step: every counter at zero and the scratch put together. -/
theorem Inv_end (K : GSem nD τ sig → ℕ) (d : Dev nD) : iprop(invs X K ∗ Inv X d 19) ⊢ (|={Set.univ}=> Final d : sProp 𝕄) := by
  unfold Final
  rw [bigSep_osem fun s => (semVal ((d : Thread nD τ), s) 0 : sProp 𝕄), bigSep_kinds]
  unfold Inv ghost
  rw [show (start d 19 : sProp 𝕄) = iprop(atPos ER (barCell d) 1 ∅ 0) from if_neg (by omega)]
  iintro ⟨#HI, ⟨⟨HB, -⟩, -, ⟨W0, W1, W2, W3, W4, W5⟩, -, ⟨Z0, Z1, Z2, Z3, Z4, Z5⟩⟩, HR⟩
  ihave HR := (region_end X d) $$ HR
  imod (close_bar X K d) $$ [HB] with HB
  · isplitr; · iexact HI
    iexact HB
  imod (posW_end X K 0 d (b := 19 + 4) (x := 19 + 5) (by omega) (by omega)) $$ [W0 Z0] with H0
  · iframe HI W0 Z0
  imod (posW_end X K 1 d (b := 19 + 3) (x := 19 + 4) (by omega) (by omega)) $$ [W1 Z1] with H1
  · iframe HI W1 Z1
  imod (posW_end X K 2 d (b := 19 + 3) (x := 19 + 4) (by omega) (by omega)) $$ [W2 Z2] with H2
  · iframe HI W2 Z2
  imod (posW_end X K 3 d (b := 19 + 2) (x := 19 + 3) (by omega) (by omega)) $$ [W3 Z3] with H3
  · iframe HI W3 Z3
  imod (posW_end X K 4 d (b := 19 + 2) (x := 19 + 3) (by omega) (by omega)) $$ [W4 Z4] with H4
  · iframe HI W4 Z4
  imod (posW_end X K 5 d (b := 19 + 2) (x := 19 + 5) (by omega) (by omega)) $$ [W5 Z5] with H5
  · iframe HI W5 Z5
  imodintro
  isplitl [HB]; · iexact HB
  isplitr [HR]
  · iapply (show iprop(zeros 0 d ∗ zeros 1 d ∗ zeros 2 d ∗ zeros 3 d ∗ zeros 4 d ∗ zeros 5 d) ⊢ (_ : sProp 𝕄) from by
      unfold zeros; exact Entails.of_eq rfl)
    iframe H0 H1 H2 H3 H4 H5
  iexact HR

end Cert.KernelIdeal.Mesh

end
-- ==== Proof.KernelIdeal.Data.lean ====
/-
  The pipeline's proof data: the windows' blocks, what each step leaves in them, and the body obligation of every step.
-/
module

public import proofs.«01_k».proof.Proof.KernelIdeal.Ends
public import Idealize.ShloMosaic.Lib.Pipeline.ValueKit.Geometry

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

open Idealize.ShloMosaic.Pipeline (Dat BodyObligation)

variable (m : (ℓ : Loc nD τ sig) → Buf (Elt F) ℓ)

/-! ## The windows' blocks -/

/-- Device `d`'s partial sums, as the kernel finds them. -/
def part (d : Dev nD) : S8192x2048.Idx → Elt F .f32 := V m d main_v1

/-- The block of the partial sums that step `t` stages for its sends. -/
theorem index0 : ∀ t : Fin cfg0.N, win0_0.index t = ![min t.val 15, 0] := (by decide +kernel : ∀ t : Fin grid0.N, win0_0.index t = ![min t.val 15, 0])

/-- The partial block staged for the first send at step `t` is block `t` of the device's partial sums. -/
theorem iblk_first (d : Dev nD) (t : Fin cfg0.N) (h : InR (t.val + 5)) (i : S512x2048.Idx) :
    iblk m d 0 t i = blkOf (part m) d t.val (i 0).val (i 1) := by
  have hi : (i 0).val < 512 := (i 0).isLt
  show V m d main_v1 ((win0_0.blk t).view.emb i) = V m d main_v1 (ix2 _ _)
  refine congrArg _ ?_
  blk_ext [index0]

/-! ## The proof data -/

/-- The invariant before step `t`: the cells, the levels and the device's state; at the end what is given back. -/
def Phi (d : Dev nD) (t : ℕ) : sProp 𝕄 :=
  if t < 19 then iprop((∃ K, invs (part m) K) ∗ levAts L lv ∗ Inv (part m) d t) else Final d

/-- What each window's buffer holds after step `t`. -/
def afterOf (d : Dev nD) : (w : Fin cfg0.W) → Fin cfg0.N → (cfg0.win w).block.Idx → Elt F (cfg0.win w).elt
  | 0, t => iblk m d 0 t
  | 1, t => iblk m d 1 t
  | 2, t => iblk m d 2 t
  | 3, t => iblk m d 3 t
  | 4, t => outv (part m) (iblk m d 3 t) (iblk m d 1 t) (iblk m d 2 t) d (t.val + 2)
  | ⟨_ + 5, h⟩, _ => absurd h (Nat.not_lt.2 (Nat.le_add_left _ _))

/-- The proof data of the pipeline on device `d`. -/
def dat (d : Dev nD) : Dat τ (Elt F) ℕ ℕ UU ℕ cfg0 d where
  A w := V m d (Pipeline.arrRef spec0 w)
  after := afterOf m d
  Φ t := Phi m d t.val
  q w := Pipeline.shareOf spec0 w
  owed t := owed d t.val

/-- What an input's buffer holds before step `t` is the step's block. -/
theorem before_0 (d : Dev nD) (t : Fin cfg0.N) (b) : (dat m d).before 0 t b = iblk m d 0 t :=
  ((dat m d).before_in_eq_fetched 0 rfl (fun _ => rfl) (fun _ _ _ => rfl) (fun t => rfl) t b).trans rfl
theorem before_1 (d : Dev nD) (t : Fin cfg0.N) (b) : (dat m d).before 1 t b = iblk m d 1 t :=
  ((dat m d).before_in_eq_fetched 1 rfl (fun _ => rfl) (fun _ _ _ => rfl) (fun t => rfl) t b).trans rfl
theorem before_2 (d : Dev nD) (t : Fin cfg0.N) (b) : (dat m d).before 2 t b = iblk m d 2 t :=
  ((dat m d).before_in_eq_fetched 2 rfl (fun _ => rfl) (fun _ _ _ => rfl) (fun t => rfl) t b).trans rfl
theorem before_3 (d : Dev nD) (t : Fin cfg0.N) (b) : (dat m d).before 3 t b = iblk m d 3 t :=
  ((dat m d).before_in_eq_fetched 3 rfl (fun _ => rfl) (fun _ _ _ => rfl) (fun t => rfl) t b).trans rfl

/-- What is owed and recorded, as a point's `owesAt` and back. -/
theorem owesAt_intro (d : Dev nD) (t : Fin (cfg0.N + 1)) : (ow d (owed d t.val) : sProp 𝕄) ⊢ (dat m d).owesAt 0 t := by
  unfold Dat.owesAt Pipeline.owesWithin Dat.bound ow
  rw [show (dat m d).owed t = owed d t.val from rfl, show (dat m d).recorded t = Set.univ from rfl]
  iintro ⟨%W, HO⟩
  iexists W
  isplitr; · ipureintro; exact fun _ _ => Or.inl trivial
  iexact HO
/-- What a device owes at step `t` is the protocol's. -/
theorem owesAt_elim (d : Dev nD) (t : Fin (cfg0.N + 1)) : (dat m d).owesAt 0 t ⊢ (ow d (owed d t.val) : sProp 𝕄) := by
  unfold Dat.owesAt Pipeline.owesWithin ow
  rw [show (dat m d).owed t = owed d t.val from rfl]
  iintro ⟨%W, -, HO⟩
  iexists W
  iexact HO

/-! ## The body obligation -/

/-- The result's window is idle for the first three steps and written back at every later one. -/
theorem idle_iff : ∀ t : Fin cfg0.N, (cfg0.idle 4 (cfg0.grid.coords t) = true ↔ t.val < 3) ∧ ((cfg0.win 4).flush t = true ↔ 3 ≤ t.val) :=
  (by decide +kernel : ∀ t : Fin grid0.N, (cfg0.idle 4 (grid0.coords t) = true ↔ t.val < 3) ∧ (win0_4.flush t = true ↔ 3 ≤ t.val))

/-- The staging buffer of step `t`. -/
theorem stg_eq : ∀ t : Fin cfg0.N, st0_0 t = stg t.val := fun t => by
  unfold stg
  congr 1
  exact Fin.ext (Nat.mod_eq_of_lt t.isLt).symm

/-- The output's buffer after the step is what the obligation says of it: untouched before the first block is complete, the
    block's result from then on. -/
theorem out_left (d : Dev nD) (t : Fin cfg0.N) :
    (wrote (part m) d t.val (st0_4 t) (iblk m d 3 t) (iblk m d 1 t) (iblk m d 2 t)
        iprop(∃ b, owns (d : Thread nD τ) (st0_4 t) fullShare ((dat m d).before 4 t b)) : sProp 𝕄)
      ⊢ match cfg0.idle 4 (cfg0.grid.coords t) with
        | true => match (cfg0.win 4).flush t with
          | false => iprop(∃ b, owns (d : Thread nD τ) (st0_4 t) fullShare ((dat m d).before 4 t b))
          | true => owns (d : Thread nD τ) (st0_4 t) fullShare ((dat m d).after 4 t)
        | false => owns (d : Thread nD τ) (st0_4 t) fullShare ((dat m d).after 4 t) := by
  have hN : t.val < 19 := t.isLt
  obtain ⟨hi, hf⟩ := idle_iff t
  unfold wrote
  by_cases h : t.val < 3
  · rw [hi.mpr h, show (cfg0.win 4).flush t = false from by rw [← Bool.not_eq_true, hf]; omega, if_neg (fun h' => by omega)]
  · rw [show cfg0.idle 4 (cfg0.grid.coords t) = false from by rw [← Bool.not_eq_true, hi]; omega, if_pos (show InR (t.val + 2) from ⟨by omega, by omega⟩)]
    exact Entails.of_eq rfl

/-- The result's buffer before the step, contents unknown. -/
theorem out_found (d : Dev nD) (t : Fin cfg0.N) : iprop(∃ b, owns (d : Thread nD τ) (st0_4 t) fullShare ((dat m d).before 4 t b))
    ⊢ (iprop(∃ f, (st0_4 t).view.loc (d : Thread nD τ) ↦[(st0_4 t).view.set]{fullShare} f) : sProp 𝕄) := by
  unfold owns
  iintro ⟨%b, %f, -, H⟩
  iexists f
  iexact H

/-- From one step's invariant to the next, the last to the end. -/
theorem Phi_next (K) (d : Dev nD) (t : ℕ) (h : t < 19) :
    iprop(invs (part m) K ∗ levAts L lv ∗ Inv (part m) d (t + 1)) ⊢ (|={Set.univ}=> Phi m d (t + 1) : sProp 𝕄) := by
  unfold Phi
  by_cases h' : t + 1 < 19
  · rw [if_pos h']
    iintro ⟨#HI, #HL, H⟩
    imodintro
    isplitr
    · iexists K; iexact HI
    isplitr
    · iexact HL
    iexact H
  · obtain rfl : t = 18 := by omega
    rw [if_neg h']
    iintro ⟨#HI, -, H⟩
    iapply (Inv_end (part m) K d)
    isplitr; · iexact HI
    iexact H

/-- Every step of the kernel keeps the invariant and leaves its blocks. -/
theorem body_ok (d : Dev nD) : BodyObligation (dat m d) defs₀ 𝒱₀ 0 Set.univ := fun t => by
  have hN : t.val < 19 := t.isLt
  rw [bigSep_W0, bigSep_W0]
  dsimp only
  rw [show (dat m d).Φ t.castSucc = Phi m d t.val from rfl, show (dat m d).Φ t.succ = Phi m d (t.val + 1) from rfl]
  rw [show Phi m d t.val = _ from if_pos hN]
  simp only [before_0, before_1, before_2, before_3]
  iintro ⟨⟨⟨%K, #HI⟩, #HL, HS⟩, HO, ⟨%b0, H0⟩, ⟨%b1, H1⟩, ⟨%b2, H2⟩, ⟨%b3, H3⟩, H4⟩
  ihave HO := (owesAt_elim m d t.castSucc) $$ HO
  iapply (wp_fupd _ _ _ (defs₀ .tc cfg0.body (cfg0.bodyArgs t (cfg0.slots t))) _)
  iapply (wp_wand_r _ _ _)
  isplitl [HS HO H0 H1 H2 H3 H4]
  · iapply (step (part m) K d t (stg_eq t) (iblk m d 0 t) (iblk m d 3 t) (iblk m d 1 t) (iblk m d 2 t) (fun h i => iblk_first m d t h i)
      iprop(∃ b, owns (d : Thread nD τ) (st0_4 t) fullShare ((dat m d).before 4 t b)) (out_found m d t))
    isplitr
    · isplitr
      · iexact HI
      iexact HL
    isplitl [HS]; · iexact HS
    isplitl [HO]; · iexact HO
    isplitl [H0]; · iexact H0
    isplitl [H1]; · iexact H1
    isplitl [H2]; · iexact H2
    isplitl [H3]; · iexact H3
    iexact H4
  iintro %u ⟨HS, HO, H0, H1, H2, H3, H4⟩
  imod (Phi_next m K d t.val hN) $$ [HS] with HS
  · isplitr; · iexact HI
    isplitr; · iexact HL
    iexact HS
  imodintro
  isplitl [HS]; · iexact HS
  isplitl [HO]; · iapply (owesAt_intro m d t.succ); iexact HO
  isplitl [H0]; · iexact H0
  isplitl [H1]; · iexact H1
  isplitl [H2]; · iexact H2
  isplitl [H3]; · iexact H3
  iapply (out_left m d t)
  iexact H4

end Cert.KernelIdeal.Mesh

end
-- ==== Proof.KernelIdeal.Region.lean ====
/-
  The region and its surroundings as segments: what a device carries in, what it is left with.
-/
module

public import proofs.«01_k».proof.Proof.KernelIdeal.Data

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

open Idealize.ShloMosaic.Pipeline (Dat BodyObligation)

variable (m : (ℓ : Loc nD τ sig) → Buf (Elt F) ℓ)

/-- The pipeline's configuration is well formed. -/
abbrev adm : (p : Fin 1) → (pcfgs (F := F) p).Adm := fun p => (cfgs p).toPCfg_adm
/-- The proof data of the one pipeline. -/
def pdats : (p : Fin 1) → (d : Dev nD) → Dat τ (Elt F) ℕ ℕ UU ℕ (Pipeline.pin (pcfgs (F := F)) adm p) d
  | 0 => dat m

/-! ## The buffers around the region -/

/-- The launch's valuation of a device's buffers. -/
abbrev V₀ (d : Dev nD) : Valuation τ sig (Elt F) := fun b => m ((d : Dev nD), b)

/-- A device's buffers. -/
def bufs : Finset (DevRef τ sig) := (StableHlo.tcRefs τ sig).filter fun b => ¬ b.isScoped

omit [FloatOps F] in
/-- The arrays as the host operations hold them. -/
theorem unscopedBufs_held (d : Dev nD) (W : Valuation τ sig (Elt F)) :
    (unscopedBufs d (fun b => W b) : sProp 𝕄) = StableHlo.held (d : Thread nD τ) bufs W := by
  unfold unscopedBufs StableHlo.held bufs StableHlo.tcRefs
  rw [Finset.filter_map, BI.bigSep_map]
  rfl

/-- The host operations touch the arrays alone. -/
theorem ops_sub : ∀ op ∈ (hostOps0 : List (HloOp τ sig (Elt F))), op.bufs ⊆ bufs := fun op h => by
  simp only [List.mem_cons, List.mem_nil_iff, or_false] at h
  rcases h with rfl | rfl
  · exact (by decide : ({Proc.devRef .tc main_arg0, Proc.devRef .tc main_v1} : Finset (DevRef τ sig)) ⊆ bufs)
  · exact (by decide : ({Proc.devRef .tc main_arg2, Proc.devRef .tc main_v2} : Finset (DevRef τ sig)) ⊆ bufs)

/-- The host operations allocate nothing. -/
theorem ops_fresh : ∀ op ∈ (hostOps0 : List (HloOp τ sig (Elt F))), op.fresh = ∅ := List.forall_iff_forall_mem.mp hostOps0_fresh

/-! ## The segments -/

/-- What a device carries to the kernel beside its buffers: the cells' invariants, its own cells' opening tokens, what it
    brings to the first step, and what it owes. -/
def carried (d : Dev nD) : sProp 𝕄 :=
  iprop((∃ K, invs (part m) K) ∗ (bigSep Finset.univ fun p => openTok ER ((d : Thread nD τ), osem p)) ∗ brought d ∗ ow d (owed d 0))

/-- The two reshapes. -/
def seg0 : Pipeline.HostSeg (Name := ℕ) (U := UU) (pcfgs (F := F)) defs₀ 𝒱₀ L lv :=
  Pipeline.HostSeg.ofOps _ _ _ _ _ bufs hostOps0 ops_sub ops_fresh (V₀ m) (carried m)

/-- What a device ends with: its arrays, its other buffers, its barrier counter at zero. -/
def left_ (d : Dev nD) : sProp 𝕄 :=
  iprop((pdats m 0 d).arrays ((pdats m 0 d).arrAt · cfg0.N) ∗ Pipeline.unscopedRest spec0 d (V m d) ∗ semVal (barCell d) 0)

/-- A device owes at levels from 1 throughout. -/
theorem owed_high (d : Dev nD) (t : ℕ) : High 1 (owed d t) := by
  unfold owed barDue
  refine ((High.sends d t).mono (by omega)).add ?_
  split
  · exact ((High.tally _ _ le_rfl (by omega)).add (High.tally _ _ le_rfl (by omega))).add (High.tally _ _ le_rfl (by omega))
  · exact High.zero 1

/-- What the region allocates besides the windows is the scratch. -/
theorem scopedRest_eq (d : Dev nD) : (Pipeline.scopedRest spec0 d : sProp 𝕄) = iprop(∃ f : Buf (Elt F) (aloc d), aloc d ↦{fullShare} f) :=
  scopedRest0_eq d

omit [FloatOps F] in
/-- Nothing, as an empty product. -/
theorem bigSep_none (Φ : Fin 0 → sProp 𝕄) : bigSep Finset.univ Φ = (BI.emp : sProp 𝕄) := bigSep_univ_eq_bigSepL [] (by decide) (by decide) Φ

/-- No table is prefetched. -/
theorem prefHeld_emp (d : Dev nD) (q) (pf) :
    (Pipeline.prefHeld (Ix := ℕ) (Name := ℕ) (U := UU) (Lvl := ℕ) (Val := Elt F) (pcfgs (F := F) 0).pre d q pf : sProp 𝕄) = BI.emp :=
  bigSep_none _

/-- What a device carries in and the scratch give the invariant before step 0. -/
theorem Phi_start (d : Dev nD) :
    iprop(((∃ K, invs (part m) K) ∗ levAts L lv ∗ brought d ∗ bigSep Finset.univ fun p => fresh ((d : Thread nD τ), osem p))
        ∗ ∃ f : Buf (Elt F) (aloc d), aloc d ↦{fullShare} f) ⊢ (Phi m d 0 : sProp 𝕄) := by
  rw [show (Phi m d 0 : sProp 𝕄) = _ from if_pos (by omega)]
  iintro ⟨⟨HI, HL, HB, HF⟩, HS⟩
  isplitl [HI]; · iexact HI
  isplitl [HL]; · iexact HL
  iapply (Inv_start (part m) d)
  isplitl [HB]; · iexact HB
  isplitl [HF] <;> iassumption

/-- Nothing is owed at the end. -/
theorem owes_end (d : Dev nD) : (pdats m 0 d).owesAt 0 (Fin.last _) ⊢ (ow d 0 : sProp 𝕄) := by
  refine (owesAt_elim m d (Fin.last _)).trans (Entails.of_eq ?_)
  rw [show owed d (Fin.last cfg0.N).val = owed d grid0.N from rfl, N_0, owed_end]

/-- What is left at the end, in the region's own terms. -/
theorem Final_eq (d : Dev nD) :
    (Final d : sProp 𝕄) = iprop(semVal (barCell d) 0 ∗ Pipeline.ownSems0 osem d ∗ Pipeline.scopedRest spec0 d) := by
  rw [scopedRest_eq]
  rfl

/-- The invariant at the end gives it. -/
theorem Phi_end (d : Dev nD) :
    (Phi m d cfg0.N : sProp 𝕄) ⊢ iprop(semVal (barCell d) 0 ∗ Pipeline.ownSems0 osem d ∗ Pipeline.scopedRest spec0 d) := by
  rw [show cfg0.N = 19 from N_0, show (Phi m d 19 : sProp 𝕄) = Final d from if_neg (by omega), Final_eq]

/-- The region: the kernel's nineteen steps. -/
def reg0 : Pipeline.RegionSeg (pcfgs (F := F)) adm (pdats m) 0 defs₀ 𝒱₀ L lv 0 where
  win := winFacts₀0
  block_pos := block_pos0
  stage_whole := stage_whole0
  K := Fin 6 × Fin 6
  osem := osem
  ho := (by decide +kernel : Pipeline.OwnSemFacts spec0 osem)
  hbody d := (body_ok m d).loose
  hwaits d := Pipeline.cellsWaits_intro _ (pdats m) 0 0 d fun w s t => mayWait d _ (owed_high d t.val) (by omega) (by omega)
  pre d := iprop(StableHlo.held (d : Thread nD τ) bufs (StableHlo.after hostOps0 (V₀ m d)) ∗ carried m d)
  post d := iprop(left_ m d ∗ ∃ W, owes (d : Thread nD τ) (0 : CellTallies nD τ sig ℕ) W)
  X d := iprop((∃ K, invs (part m) K) ∗ levAts L lv ∗ brought d ∗ bigSep Finset.univ fun p => fresh ((d : Thread nD τ), osem p))
  Y d := semVal (barCell d) 0
  Z d := Pipeline.unscopedRest spec0 d (V m d)
  hentry d := by
    rw [← unscopedBufs_held, prefHeld_emp]
    unfold carried Pipeline.ownSems0
    iintro ⟨⟨HB, ⟨%K, #HI⟩, HT, HS, HO⟩, HV, #HL⟩
    imod (open_cells (part m) K d) $$ [HT HV] with HF
    · isplitr; · iexact HI
      iapply (Entails.of_eq (bigSep_sep' Finset.univ (fun p => openTok ER ((d : Thread nD τ), osem p)) (fun p => semVal ((d : Thread nD τ), osem p) 0)).symm)
      isplitl [HT] <;> iassumption
    ihave ⟨HA, HR⟩ := (Pipeline.arrays_of_unscopedBufs_shared (pcfgs (F := F)) adm (pdats m) (p := 0) winFacts₀0 sharedIn0 arr_whole0 d (fun _ _ => rfl) (V m d) (fun _ => rfl)) $$ HB
    imodintro
    isplitl [HA]; · iexact HA
    isplitr; · iempintro
    isplitl [HO]; · iapply (owesAt_intro m d 0); iexact HO
    isplitl [HS HF]
    · isplitr; · iexists K; iexact HI
      isplitr; · iexact HL
      isplitl [HS] <;> iassumption
    iexact HR
  hin d := by
    rw [prefHeld_emp, show (pdats m 0 d).Φ 0 = Phi m d 0 from rfl]
    refine (sep_mono .rfl (sep_mono .rfl (Entails.of_eq (scopedRest_eq d)))).trans ?_
    iintro ⟨HX, -, HS⟩
    iapply (Phi_start m d)
    isplitl [HX] <;> iassumption
  hout d := by
    exact Phi_end m d
  hexit d := by
    unfold left_
    iintro ⟨HA, HO, HY, HZ⟩
    ihave HO := (owes_end m d) $$ HO
    imodintro
    isplitr [HO]
    · isplitl [HA]; · iexact HA
      isplitl [HZ] <;> iassumption
    iapply (Entails.of_eq (show (ow d 0 : sProp 𝕄) = iprop(∃ W, owes (d : Thread nD τ) (0 : CellTallies nD τ sig ℕ) W) from rfl))
    iexact HO

/-- The program's two segments: the host's reshapes and the kernel. -/
def segs : List (Pipeline.Seg (pcfgs (F := F)) adm (pdats m) 0 defs₀ 𝒱₀ L lv) := [.host (seg0 m), .region (reg0 m)]

/-- @main is the run of the two segments. -/
theorem main_eq (d : Dev nD) : main (F := F) d = Pipeline.Seg.run (segs m) :=
  main_segs adm (pdats m) 0 𝒱₀ L lv (seg0 m) (reg0 m) rfl d

end Cert.KernelIdeal.Mesh

end
-- ==== Proof.KernelIdeal.Funds.lean ====
/-
The protocol's ghost state at launch: every duty's token and every credit, handed to the devices that spend them.
-/
module

public import proofs.«01_k».proof.Proof.KernelIdeal.Region

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

/-! ## The blocks of a run of sends -/

omit [FloatOps F] in
/-- Whatever block a device's run of sends starts from, up to the first, it holds the sixteen blocks. -/
theorem bigSep_blocks {x : ℕ} (hx : x ≤ 5) (Φ : ℕ → sProp 𝕄) :
    (bigSep (Finset.Ico x 40) fun B => if InR B then Φ B else iprop(emp)) = bigSep Finset.univ fun j : Fin 16 => Φ (j.val + 5) := by
  refine (bigSep_filter (Finset.Ico x 40) InR Φ).symm.trans ?_
  rw [show (Finset.Ico x 40).filter InR = (Finset.univ : Finset (Fin 16)).map ⟨fun j => j.val + 5, fun a b h => Fin.ext (Nat.add_right_cancel h)⟩ from ?_,
    bigSep_map]
  · rfl
  · ext B
    rw [Finset.mem_filter, Finset.mem_Ico, Finset.mem_map]
    constructor
    · rintro ⟨h, h5, h21⟩
      exact ⟨⟨B - 5, by omega⟩, Finset.mem_univ _, by show B - 5 + 5 = B; omega⟩
    · rintro ⟨j, -, rfl⟩
      have := j.isLt
      show (x ≤ j.val + 5 ∧ j.val + 5 < 40) ∧ 5 ≤ j.val + 5 ∧ j.val + 5 < 21
      omega

/-! ## Tokens -/

/-- A duty: one of a barrier cell's three, or the duty of a landing, or of the send it comes from. -/
abbrev Job : Type := (Duty × Dev nD) ⊕ (((Fin 6 × Fin 16) × Dev nD) ⊕ ((Fin 6 × Fin 16) × Dev nD))

/-- The token of a duty. -/
def jobTok : Job → GSem nD τ sig × ℕ × Duty
  | .inl (i, d) => (barCell d, 0, i)
  | .inr (.inl ((k, j), d)) => (recvCell k d (j.val + 5), rnd (j.val + 5), 0)
  | .inr (.inr ((k, j), d)) => (sendCell k d, j.val, 0)

/-- The barrier semaphore is no copy's semaphore. -/
theorem reg_ne_dma (q : DmaSem sig) : (SemLoc.reg barS : SemLoc sig) ≠ .dma q := fun h => nomatch h

/-- Different duties have different tokens. -/
theorem jobTok_inj : Function.Injective jobTok := by
  have cellOf : ∀ {a b : GSem nD τ sig × ℕ × Duty}, a = b → a.1.1.1 = b.1.1.1 ∧ a.1.2 = b.1.2 ∧ a.2.1 = b.2.1 ∧ a.2.2 = b.2.2 := by
    rintro a _ rfl; exact ⟨rfl, rfl, rfl, rfl⟩
  rintro (⟨i, d⟩ | ⟨⟨k, j⟩, d⟩ | ⟨⟨k, j⟩, d⟩) (⟨i', d'⟩ | ⟨⟨k', j'⟩, d'⟩ | ⟨⟨k', j'⟩, d'⟩) h <;> obtain ⟨hd, hs, hr, hi⟩ := cellOf h
  · change d = d' at hd; change i = i' at hi; subst hd; subst hi; rfl
  · exact absurd hs (reg_ne_dma _)
  · exact absurd hs (reg_ne_dma _)
  · exact absurd hs.symm (reg_ne_dma _)
  · change d = d' at hd
    change rnd (j.val + 5) = rnd (j'.val + 5) at hr
    obtain ⟨h5, rfl⟩ := recvS_inj (SemLoc.dma.inj hs)
    have hb := block_rnd (B := j.val + 5) ⟨by omega, by have := j.isLt; omega⟩
    have hb' := block_rnd (B := j'.val + 5) ⟨by omega, by have := j'.isLt; omega⟩
    have : j = j' := Fin.ext (by omega)
    subst hd; subst this; rfl
  · exact absurd (SemLoc.dma.inj hs) (sendS_ne_recvS _ _ _).symm
  · exact absurd hs.symm (reg_ne_dma _)
  · exact absurd (SemLoc.dma.inj hs) (sendS_ne_recvS _ _ _)
  · change d = d' at hd
    change j.val = j'.val at hr
    have hk := sendS_inj (SemLoc.dma.inj hs)
    have : j = j' := Fin.ext hr
    subst hd; subst hk; subst this; rfl

/-- Every duty of the protocol. -/
def allToks : Finset (GSem nD τ sig × ℕ × Duty) := Finset.univ.map ⟨jobTok, jobTok_inj⟩

/-- The tokens a device's sends of one kind spend. -/
def kindToks (k : Fin 6) (d : Dev nD) : sProp 𝕄 :=
  bigSep Finset.univ fun j : Fin 16 => iprop(dutyTok ER (recvCell k (tgt k d) (j.val + 5)) (rnd (j.val + 5)) 0 ∗ dutyTok ER (sendCell k d) j.val 0)

omit [FloatOps F] in
/-- The tokens of a kind are those of the sends from the first block on. -/
theorem kindToks_eq (k : Fin 6) (d : Dev nD) {x : ℕ} (hx : x ≤ 5) : (kindToks k d : sProp 𝕄) = toks k d x := by
  unfold toks tok
  rw [bigSep_blocks hx fun B => iprop(dutyTok ER (recvCell k (tgt k d) B) (rnd B) 0 ∗ dutyTok ER (sendCell k d) (B - 5) 0)]
  rfl

/-- Taking the other z is a bijection. -/
def zpEquiv : Dev nD ≃ Dev nD := ⟨zp, zp, by decide, by decide⟩
/-- So is the next device of the ring. -/
def rightEquiv : Dev nD ≃ Dev nD := ⟨right, left, by decide, by decide⟩

/-- The tokens a device's three signals spend. -/
def barToks (d : Dev nD) : sProp 𝕄 :=
  iprop(dutyTok ER (barCell (zp d)) 0 0 ∗ dutyTok ER (barCell (right d)) 0 1 ∗ dutyTok ER (barCell (left d)) 0 2)

omit [FloatOps F] in
/-- The barrier cells' tokens, handed to the devices that signal. -/
theorem barToks_all : (bigSep Finset.univ fun p : Duty × Dev nD => (dutyTok ER (barCell p.2) 0 p.1 : sProp 𝕄)) = bigSep Finset.univ fun d => barToks d := by
  unfold barToks
  rw [bigSep_sep' Finset.univ (fun d => dutyTok ER (barCell (zp d)) 0 0) (fun d => iprop(dutyTok ER (barCell (right d)) 0 1 ∗ dutyTok ER (barCell (left d)) 0 2)),
    bigSep_sep' Finset.univ (fun d => dutyTok ER (barCell (right d)) 0 1) (fun d => dutyTok ER (barCell (left d)) 0 2),
    bigSep_univ_prod, bigSep_univ_eq_bigSepL [0, 1, 2] (by decide) (by decide)]
  show iprop((bigSep Finset.univ fun d => dutyTok ER (barCell d) 0 0) ∗ (bigSep Finset.univ fun d => dutyTok ER (barCell d) 0 1)
    ∗ (bigSep Finset.univ fun d => dutyTok ER (barCell d) 0 2)) = _
  rw [bigSep_univ_equiv zpEquiv fun d => (dutyTok ER (barCell d) 0 0 : sProp 𝕄), bigSep_univ_equiv rightEquiv fun d => (dutyTok ER (barCell d) 0 1 : sProp 𝕄),
    bigSep_univ_equiv rightEquiv.symm fun d => (dutyTok ER (barCell d) 0 2 : sProp 𝕄)]
  rfl

omit [FloatOps F] in
/-- The copies' tokens, handed to the devices that send. -/
theorem kindToks_all : iprop((bigSep Finset.univ fun p : (Fin 6 × Fin 16) × Dev nD => (dutyTok ER (recvCell p.1.1 p.2 (p.1.2.val + 5)) (rnd (p.1.2.val + 5)) 0 : sProp 𝕄))
      ∗ bigSep Finset.univ fun p : (Fin 6 × Fin 16) × Dev nD => (dutyTok ER (sendCell p.1.1 p.2) p.1.2.val 0 : sProp 𝕄))
    = bigSep Finset.univ fun d => bigSep Finset.univ fun k => (kindToks k d : sProp 𝕄) := by
  rw [bigSep_univ_prod (α := Fin 6 × Fin 16), bigSep_univ_prod (α := Fin 6 × Fin 16),
    bigSep_congr (Ψ := fun q : Fin 6 × Fin 16 => bigSep Finset.univ fun d => (dutyTok ER (recvCell q.1 (tgt q.1 d) (q.2.val + 5)) (rnd (q.2.val + 5)) 0 : sProp 𝕄))
      (fun q _ => bigSep_univ_equiv (tgtEquiv q.1) fun d => (dutyTok ER (recvCell q.1 d (q.2.val + 5)) (rnd (q.2.val + 5)) 0 : sProp 𝕄)),
    ← bigSep_sep', bigSep_congr (fun q _ => (bigSep_sep' Finset.univ (fun d => (dutyTok ER (recvCell q.1 (tgt q.1 d) (q.2.val + 5)) (rnd (q.2.val + 5)) 0 : sProp 𝕄))
      (fun d => (dutyTok ER (sendCell q.1 d) q.2.val 0 : sProp 𝕄))).symm), bigSep_univ_comm]
  refine bigSep_congr fun d _ => ?_
  rw [bigSep_univ_prod]
  rfl

omit [FloatOps F] in
/-- All tokens, each with the device that spends it. -/
theorem allToks_eq : (bigSep allToks fun x => (dutyTok ER x.1 x.2.1 x.2.2 : sProp 𝕄))
    = bigSep Finset.univ fun d => iprop(barToks d ∗ bigSep Finset.univ fun k => kindToks k d) := by
  unfold allToks
  rw [bigSep_map, bigSep_univ_sum, bigSep_univ_sum, bigSep_sep' Finset.univ (fun d => barToks d) (fun d => bigSep Finset.univ fun k => kindToks k d),
    ← barToks_all, ← kindToks_all]
  rfl

/-! ## Credits -/

open Idealize.ShloMosaic.Pipeline (launchCred launchCred_add launchCred_sum launchCred_zero launchCred_tallyAt)

/-- The sends of kind `k` the others owe a device credit its waits. -/
theorem crds_of (k : Fin 6) (d : Dev nD) (x : ℕ) : (launchCred (fun e => dueFrom k e x) d : sProp 𝕄) ⊢ crds k d x := by
  unfold dueFrom crds
  rw [launchCred_sum]
  refine bigSep_mono fun B _ => ?_
  unfold due crd
  split_ifs with h
  · exact launchCred_tallyAt (.dma (recvS B k)) (tgt k) (src k) (tgt_src k) (src_tgt k) _ _ d
  · exact Entails.of_eq (launchCred_zero d)

/-- The launch credits a device for its three signals. -/
theorem credBar (d : Dev nD) : (launchCred (fun e => barDue e 0) d : sProp 𝕄) ⊢ cred (tallyAt (barCell d) 1 3) := by
  rw [show (fun e => barDue e 0) = fun e => (tallyAt (barCell (left e)) 1 1 + tallyAt (barCell (right e)) 1 1) + tallyAt (barCell (zp e)) 1 1 from
      funext fun e => if_pos rfl, launchCred_add, launchCred_add]
  have h := (Entails.of_eq (congrArg (fun O : CellTallies nD τ sig ℕ => (cred O : sProp 𝕄)) (show tallyAt (barCell d) 1 1 + tallyAt (barCell d) 1 1 + tallyAt (barCell d) 1 1 = tallyAt (barCell d) 1 3 by
    rw [tallyAt_add, tallyAt_add])))
  refine BI.Entails.trans ?_ h
  refine BI.Entails.trans ?_ (cred_add _ _).2
  refine BI.sep_mono (BI.Entails.trans ?_ (cred_add _ _).2) (launchCred_tallyAt (.reg barS) zp zp (by decide) (by decide) 1 1 d)
  exact BI.sep_mono (launchCred_tallyAt (.reg barS) left right (by decide) (by decide) 1 1 d) (launchCred_tallyAt (.reg barS) right left (by decide) (by decide) 1 1 d)

/-- The credits of a device's waits. -/
def allCrds (d : Dev nD) : sProp 𝕄 :=
  iprop((crds 0 d 5 ∗ crds 1 d 4 ∗ crds 2 d 4 ∗ crds 3 d 3 ∗ crds 4 d 3 ∗ crds 5 d 5) ∗ cred (tallyAt (barCell d) 1 3))

/-- What all devices owe credits every device's waits. -/
theorem allCrds_of (d : Dev nD) : (launchCred (fun e => owed e 0) d : sProp 𝕄) ⊢ allCrds d := by
  rw [show (fun e => owed e 0) = fun e => (((((dueFrom 0 e 5 + dueFrom 5 e 5) + dueFrom 1 e 4) + dueFrom 2 e 4) + dueFrom 3 e 3) + dueFrom 4 e 3) + barDue e 0 from rfl]
  rw [launchCred_add, launchCred_add, launchCred_add, launchCred_add, launchCred_add, launchCred_add]
  unfold allCrds
  iintro ⟨⟨⟨⟨⟨⟨H0, H5⟩, H1⟩, H2⟩, H3⟩, H4⟩, HB⟩
  isplitr [HB]
  · isplitl [H0]; · iapply (crds_of 0 d 5) $$ H0
    isplitl [H1]; · iapply (crds_of 1 d 4) $$ H1
    isplitl [H2]; · iapply (crds_of 2 d 4) $$ H2
    isplitl [H3]; · iapply (crds_of 3 d 3) $$ H3
    isplitl [H4]; · iapply (crds_of 4 d 3) $$ H4
    iapply (crds_of 5 d 5) $$ H5
  iapply (credBar d) $$ HB

omit [FloatOps F] in
/-- Credits of blocks before the first are none. -/
theorem crds_shift (k : Fin 6) (d : Dev nD) {x y : ℕ} (hx : x ≤ 5) (hy : y ≤ 5) : (crds k d x : sProp 𝕄) = crds k d y := by
  unfold crds crd
  rw [bigSep_blocks hx fun B => cred (tallyAt (recvCell k d B) (lvl k B) (amt k)), bigSep_blocks hy fun B => cred (tallyAt (recvCell k d B) (lvl k B) (amt k))]

/-- A device's share of the launch is what it brings to the kernel. -/
theorem brought_of (d : Dev nD) :
    iprop((bigSep barCells fun g => (reached ER g 0 : sProp 𝕄)) ∗ atPos ER (barCell d) 0 ∅ 0 ∗ (barToks d ∗ bigSep Finset.univ fun k => kindToks k d) ∗ allCrds d)
      ⊢ (brought d : sProp 𝕄) := by
  have hr : ∀ e, (bigSep barCells fun g => (reached ER g 0 : sProp 𝕄)) ⊢ reached ER (barCell e) 0 := fun e => bigSep_elim (mem_bar e)
  have hs : (start d 0 : sProp 𝕄) = _ := if_pos rfl
  unfold brought allCrds barToks
  rw [bigSep_univ_eq_bigSepL [0, 1, 2, 3, 4, 5] (by decide) (by decide), hs]
  iintro ⟨#HR, HA, ⟨⟨Z0, Z1, Z2⟩, HK⟩, ⟨C0, C1, C2, C3, C4, C5⟩, CB⟩
  isplitl [HA Z0 Z1 Z2 CB]
  · isplitl [Z0]; · iexact Z0
    isplitl [Z1]; · iexact Z1
    isplitl [Z2]; · iexact Z2
    isplitr; · iapply (hr (zp d)); iexact HR
    isplitr; · iapply (hr (right d)); iexact HR
    isplitr; · iapply (hr (left d)); iexact HR
    isplitl [HA] <;> iassumption
  isplitl [C0 C1 C2 C3 C4 C5]
  · isplitl [C0]; · iapply (Entails.of_eq (crds_shift 0 d (x := 5) (y := 4) (by omega) (by omega))) $$ C0
    isplitl [C1]; · iapply (Entails.of_eq (crds_shift 1 d (x := 4) (y := 3) (by omega) (by omega))) $$ C1
    isplitl [C2]; · iapply (Entails.of_eq (crds_shift 2 d (x := 4) (y := 3) (by omega) (by omega))) $$ C2
    isplitl [C3]; · iapply (Entails.of_eq (crds_shift 3 d (x := 3) (y := 2) (by omega) (by omega))) $$ C3
    isplitl [C4]; · iapply (Entails.of_eq (crds_shift 4 d (x := 3) (y := 2) (by omega) (by omega))) $$ C4
    iapply (Entails.of_eq (crds_shift 5 d (x := 5) (y := 2) (by omega) (by omega))) $$ C5
  iapply (show _ ⊢ (iprop(toks 0 d 5 ∗ toks 1 d 4 ∗ toks 2 d 4 ∗ toks 3 d 3 ∗ toks 4 d 3 ∗ toks 5 d 5) : sProp 𝕄) from Entails.of_eq (by
    rw [← kindToks_eq 0 d (x := 5) (by omega), ← kindToks_eq 1 d (x := 4) (by omega), ← kindToks_eq 2 d (x := 4) (by omega),
      ← kindToks_eq 3 d (x := 3) (by omega), ← kindToks_eq 4 d (x := 3) (by omega), ← kindToks_eq 5 d (x := 5) (by omega)]; rfl)) $$ HK

end Cert.KernelIdeal.Mesh

end
-- ==== Proof.KernelIdeal.Launch.lean ====
/-
The launch of the kernel on the eight devices, and its run: the arguments unchanged, every counter back at zero, each device's result as the kernel's last write-back leaves it.
-/
module

public import proofs.«01_k».proof.Proof.KernelIdeal.Funds

@[expose] public section

noncomputable section

namespace Cert.KernelIdeal.Mesh

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

open Idealize.ShloMosaic.Pipeline (Dat BodyObligation)

variable (m : (ℓ : Loc nD τ sig) → Buf (Elt F) ℓ) (ρ : Dev nD → PrngReg)

/-! ## The launch's ghost state -/

/-- A device's barrier cell determines it. -/
def barEmb : Dev nD ↪ GSem nD τ sig := ⟨barCell, fun a b h => (Prod.ext_iff.mp (Prod.ext_iff.mp h).1).1⟩

/-- The barrier cells are no copy's cells. -/
theorem cells_disjoint : Disjoint barCells dmaCells := by
  rw [Finset.disjoint_left]
  rintro g h h'
  obtain ⟨d, -, rfl⟩ := Finset.mem_map.mp h
  obtain ⟨p, -, hp⟩ := Finset.mem_map.mp h'
  exact reg_ne_dma p.2 (congrArg Prod.snd hp).symm

/-- The launch's element: the pipeline's part and the protocol's. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- A resource, with one device. -/
def onDev (d₀ : Dev nD) (P : sProp 𝕄) (d : Dev nD) : sProp 𝕄 := if d = d₀ then P else iprop(emp)
omit [FloatOps F] in
/-- A resource with one device, over all devices. -/
theorem bigSep_onDev (d₀ : Dev nD) (P : sProp 𝕄) : bigSep Finset.univ (onDev d₀ P) = P := by
  rw [bigSep_univ_at _ d₀, bigSep_congr (s := Finset.univ.erase d₀) (Ψ := fun _ => (BI.emp : sProp 𝕄))
      fun d hd => by unfold onDev; rw [if_neg (Finset.ne_of_mem_erase hd)]; rfl, BI.bigSep_emp_const]
  unfold onDev
  rw [if_pos rfl]
  exact BI.equiv_iff.mp sep_emp

/-- The protocol's part of the launch, all of it with device 0 until the devices share it. -/
def G : Dev nD → sProp 𝕄 := onDev 0 (BI.own (ER (launchOf barCells dmaCells allToks)))

omit [FloatOps F] in
/-- The one semaphore outside the region is the barrier. -/
theorem unscopedSems0_eq (d : Dev nD) : (unscopedSems0 d : sProp 𝕄) = semVal (barCell d) 0 := by
  unfold unscopedSems0
  rw [show (Finset.univ.filter fun sm : SemLoc sig => ¬ sm.isScoped .tc) = {SemLoc.reg barS} from by decide +kernel, BI.bigSep_singleton]

/-- Every semaphore past the pipeline's is one of the kernel's. -/
theorem osem_dma : ∀ q : DmaSem sig, 9 ≤ q.val → ∃ p : Fin 6 × Fin 6, osem p = .dma q := by decide +kernel
/-- Each of the kernel's semaphores is past the pipeline's. -/
theorem dma_osem : ∀ p : Fin 6 × Fin 6, ∃ q : DmaSem sig, 9 ≤ q.val ∧ osem p = .dma q := by decide +kernel
/-- The kernel's semaphores differ. -/
theorem osem_inj : Function.Injective osem := by decide +kernel

/-- The kernel's cells, by device, kind and slot. -/
def cellEmb : Dev nD × (Fin 6 × Fin 6) ↪ GSem nD τ sig :=
  ⟨fun x => ((x.1 : Thread nD τ), osem x.2), fun a b h =>
    Prod.ext (Prod.ext_iff.mp (Prod.ext_iff.mp h).1).1 (osem_inj (Prod.ext_iff.mp h).2)⟩

/-- The copies' cells, by device, kind and slot. -/
theorem dmaCells_eq : dmaCells = (Finset.univ : Finset (Dev nD × (Fin 6 × Fin 6))).map cellEmb := by
  ext g
  unfold dmaCells
  rw [Finset.mem_map, Finset.mem_map]
  constructor
  · rintro ⟨⟨d, q⟩, h, rfl⟩
    obtain ⟨p, hp⟩ := osem_dma q (Finset.mem_filter.mp (Finset.mem_product.mp h).2).2
    exact ⟨(d, p), Finset.mem_univ _, congrArg (fun sm => (((d : Thread nD τ), sm) : GSem nD τ sig)) hp⟩
  · rintro ⟨⟨d, p⟩, -, rfl⟩
    obtain ⟨q, hq, hp⟩ := dma_osem p
    exact ⟨(d, q), Finset.mem_product.mpr ⟨Finset.mem_univ _, Finset.mem_filter.mpr ⟨Finset.mem_univ _, hq⟩⟩,
      congrArg (fun sm => (((d : Thread nD τ), sm) : GSem nD τ sig)) hp.symm⟩

omit [FloatOps F] in
/-- The opening tokens of the kernel's cells, device by device. -/
theorem open_deal : (bigSep dmaCells fun g => (openTok ER g : sProp 𝕄))
    = bigSep Finset.univ fun d : Dev nD => bigSep Finset.univ fun p => openTok ER ((d : Thread nD τ), osem p) := by
  rw [dmaCells_eq, bigSep_map, bigSep_univ_prod]
  rfl

/-! ## The launch -/

/-- What a device holds when it starts @main. -/
def T₀ (d : Dev nD) : sProp 𝕄 := iprop(StableHlo.held (d : Thread nD τ) bufs (V₀ m d) ∗ carried m d)

/-- What every device may consult. -/
def records (K : GSem nD τ sig → ℕ) : sProp 𝕄 := iprop(invs (part m) K ∗ bigSep barCells fun g => reached ER g 0)
instance records_persistent (K : GSem nD τ sig → ℕ) : BI.Persistent (records m K) := by unfold records; infer_instance

/-- What a device has of its own: its buffers, its credits, what it owes. -/
def mine (d : Dev nD) : sProp 𝕄 :=
  iprop(StableHlo.held (d : Thread nD τ) bufs (V₀ m d) ∗ allCrds d ∗ ow d (owed d 0))
/-- What it is dealt of the protocol: its barrier position, its cells' opening tokens, its duties' tokens. -/
def dealt (d : Dev nD) : sProp 𝕄 :=
  iprop(atPos ER (barCell d) 0 ∅ 0 ∗ (bigSep Finset.univ fun p => openTok ER ((d : Thread nD τ), osem p))
    ∗ (barToks d ∗ bigSep Finset.univ fun k => kindToks k d))

/-- What a device starts with, from the records, what it is dealt and its own. -/
theorem T₀_intro (K : GSem nD τ sig → ℕ) (d : Dev nD) : iprop(records m K ∗ (dealt d ∗ mine m d)) ⊢ (T₀ m d : sProp 𝕄) := by
  unfold records dealt mine T₀ carried
  iintro ⟨⟨HI, HR⟩, ⟨HA, HO, HT⟩, HB, HC, HW⟩
  isplitl [HB]; · iexact HB
  isplitl [HI]; · iexists K; iexact HI
  isplitl [HO]; · iexact HO
  isplitr [HW]
  · iapply (brought_of d)
    isplitl [HR]; · iexact HR
    isplitl [HA]; · iexact HA
    isplitl [HT] <;> iassumption
  iexact HW

/-- A device's own, from what the launch gives it. -/
theorem mine_of (d : Dev nD) : iprop(unscopedBufs d (fun b => m ((d : Thread nD τ).loc b)) ∗ unscopedSems0 d
      ∗ owes (d : Thread nD τ) (owed d 0) ∅ ∗ Pipeline.launchCred (fun e => owed e 0) d ∗ prngReg d (ρ d) ∗ G d)
    ⊢ (iprop(mine m d ∗ (semVal (barCell d) 0 ∗ G d)) : sProp 𝕄) := by
  rw [show unscopedBufs d (fun b => m ((d : Thread nD τ).loc b)) = StableHlo.held (d : Thread nD τ) bufs (V₀ m d) from unscopedBufs_held d (V₀ m d),
    unscopedSems0_eq]
  unfold mine ow
  iintro ⟨Hh, Hs, HO, HC, -, HG⟩
  isplitl [Hh HO HC]
  · isplitl [Hh]; · iexact Hh
    isplitl [HC]; · iapply (allCrds_of d) $$ HC
    iexists _
    iexact HO
  isplitl [Hs] <;> iassumption

/-- The launch deals every device its share. -/
theorem init :
    iprop((bigSep Finset.univ fun d : Dev nD => iprop(unscopedBufs d (fun b => m ((d : Thread nD τ).loc b)) ∗ unscopedSems0 d
          ∗ owes (d : Thread nD τ) (owed d 0) ∅ ∗ Pipeline.launchCred (fun e => owed e 0) d ∗ prngReg d (ρ d) ∗ G d)) ∗ levAts L lv)
      ⊢ (|={Set.univ}=> bigSep Finset.univ (T₀ m) : sProp 𝕄) := by
  have hv : bigSep Finset.univ (fun d : Dev nD => (semVal (barCell d) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun d : Dev nD => (atPos ER (barCell d) 0 ∅ 0 : sProp 𝕄)) :=
    Entails.of_eq (bigSep_map (s := Finset.univ) barEmb (Φ := fun g : GSem nD τ sig => (atPos ER g 0 ∅ 0 : sProp 𝕄)))
  iintro ⟨H, -⟩
  ihave H := (show (bigSep Finset.univ fun d : Dev nD => iprop(unscopedBufs d (fun b => m ((d : Thread nD τ).loc b)) ∗ unscopedSems0 d
          ∗ owes (d : Thread nD τ) (owed d 0) ∅ ∗ Pipeline.launchCred (fun e => owed e 0) d ∗ prngReg d (ρ d) ∗ G d))
      ⊢ (bigSep Finset.univ fun d : Dev nD => iprop(mine m d ∗ (semVal (barCell d) 0 ∗ G d)) : sProp 𝕄) from bigSep_mono fun d _ => mine_of m ρ d) $$ H
  ihave ⟨HM, H⟩ := (Entails.of_eq (bigSep_sep' Finset.univ (fun d => mine m d) (fun d => iprop(semVal (barCell d) 0 ∗ G d)))) $$ H
  ihave ⟨Hs, HG⟩ := (Entails.of_eq (bigSep_sep' Finset.univ (fun d => semVal (barCell d) 0) (fun d => G d))) $$ H
  ihave Hu := (show bigSep Finset.univ (G (F := F)) ⊢ BI.own (ER (launchOf barCells dmaCells allToks)) from
    Entails.of_eq (bigSep_onDev (F := F) 0 (BI.own (ER (launchOf barCells dmaCells allToks))))) $$ HG
  imod (Rounds.fund_launch ER (rd (part m)) cells_disjoint (fun g _ h => h) allToks) $$ [Hs Hu] with ⟨%K, -, #HI, #HR, HA, HO, HT⟩
  · isplitl [Hs]
    · iapply hv $$ Hs
    · iexact Hu
  imodintro
  iapply (bigSep_with_persistent (R := records m K) (Φ := fun d => iprop(dealt d ∗ mine m d)) fun d _ => T₀_intro m K d)
  isplitr
  · unfold records invs
    isplitr; · iexact HI
    iexact HR
  iapply (Entails.of_eq (bigSep_sep' Finset.univ (fun d => dealt d) (fun d => mine m d)).symm)
  isplitr [HM]
  · unfold dealt
    iapply (Entails.of_eq (bigSep_sep' Finset.univ (fun d => atPos ER (barCell d) 0 ∅ 0) (fun d => iprop((bigSep Finset.univ fun p => openTok ER ((d : Thread nD τ), osem p))
      ∗ (barToks d ∗ bigSep Finset.univ fun k => kindToks k d)))).symm)
    isplitl [HA]; · iapply hat $$ HA
    iapply (Entails.of_eq (bigSep_sep' Finset.univ (fun d : Dev nD => bigSep Finset.univ fun p => openTok ER ((d : Thread nD τ), osem p))
      (fun d : Dev nD => iprop(barToks d ∗ bigSep Finset.univ fun k => kindToks k d))).symm)
    isplitl [HO]; · iapply (Entails.of_eq open_deal) $$ HO
    iapply (Entails.of_eq allToks_eq) $$ HT
  iexact HM

/-! ## The run -/

/-- A device's result as the last write-back leaves it. -/
def outArr (d : Dev nD) : Buf (Elt F) ((d : Thread nD τ).loc main_v3) := (dat m d).arrAt 4 cfg0.N

/-- The residual is unchanged at the end. -/
theorem arg1_kept (d : Dev nD) : (dat m d).arrAt 1 cfg0.N = m ((d : Thread nD τ).loc main_arg1) :=
  ((dat m d).arrAt_in 1 rfl _).trans (V_main_arg1 m d)

/-- The windows' arrays at the end, each whole. -/
theorem arrays_whole (d : Dev nD) : ((dat m d).arrays ((dat m d).arrAt · cfg0.N) : sProp 𝕄)
    = bigSep Finset.univ fun w : Fin 5 => ((cfg0.win w).arr.view.loc (d : Thread nD τ)) ↦{(dat m d).share w} (dat m d).arrAt w cfg0.N := by
  unfold Dat.arrays
  exact bigSep_congr fun w _ => by rw [(arr_whole0 w).set_eq_univ]

/-- The result and the arguments among what a device ends with. -/
theorem left_split (d : Dev nD) : left_ m d ⊢ (iprop(((d : Thread nD τ).loc main_arg0 ↦{fullShare} m ((d : Thread nD τ).loc main_arg0))
    ∗ ((d : Thread nD τ).loc main_arg1 ↦{(dat m d).share 1} m ((d : Thread nD τ).loc main_arg1))
    ∗ ((d : Thread nD τ).loc main_arg2 ↦{fullShare} m ((d : Thread nD τ).loc main_arg2))
    ∗ ((d : Thread nD τ).loc main_v3 ↦{(dat m d).share 4} outArr m d) ∗ semVal (barCell d) 0) : sProp 𝕄) := by
  unfold left_ outArr
  rw [unscopedRest0_eq, V_main_arg0, V_main_arg2, show (pdats m 0 d) = dat m d from rfl, arrays_whole, bigSep_W0, arg1_kept]
  iintro ⟨⟨-, H1, -, -, H4⟩, ⟨H0, H2⟩, HB⟩
  isplitl [H0]; · iexact H0
  isplitl [H1]; · iexact H1
  isplitl [H2]; · iexact H2
  isplitl [H4] <;> iassumption

/-- The one semaphore outside the region is the barrier. -/
theorem only_bar : ∀ sm : SemLoc sig, sm.isScoped .tc = false → sm = .reg barS := by decide +kernel

set_option backward.isDefEq.respectTransparency.types false in
/-- The run: at any float values, from any memory with zero counters, every weakly fair execution of @main on the eight devices
    ends, with each device's arguments as they were, its result `outArr`, and every semaphore counter at zero. -/
theorem run_main : θ_run defs (onTc (τ := τ) (main (F := F))) ⟨m, fun _ => 0, ρ⟩
    (fun r => (∀ d : Dev nD, r.2.mem ((d : Thread nD τ).loc main_v3) = outArr m d
        ∧ r.2.mem ((d : Thread nD τ).loc main_arg0) = m ((d : Thread nD τ).loc main_arg0)
        ∧ r.2.mem ((d : Thread nD τ).loc main_arg1) = m ((d : Thread nD τ).loc main_arg1)
        ∧ r.2.mem ((d : Thread nD τ).loc main_arg2) = m ((d : Thread nD τ).loc main_arg2)) ∧ r.2.sem = fun _ => 0) :=
  Pipeline.θ_run_regions_kit_sems (pcfgs (F := F)) adm (pdats m) 0 cellOf_inj EP defs₀ 𝒱₀ L lv m ρ main (segs m)
    (fun d Q => by rw [main_eq m d])
    (by simp only [segs, Pipeline.Seg.pipes_host, Pipeline.Seg.pipes_region, Pipeline.Seg.pipes_nil]; decide)
    (O₀ := fun d => owed d 0) (hL := L_of_ne) (G := G) (u₀ := u₀ (F := F))
    (hu₀ := by
      unfold u₀ G
      rw [bigSep_onDev]
      iintro Hu
      ihave H := (ownU_pair _ _) $$ Hu
      icases H with ⟨HP, HX⟩
      imodintro
      isplitl [HP]; · iexact HP
      iexact HX)
    (T₀ := T₀ m) (Tₙ := left_ m)
    (hch := ⟨fun d => .rfl, fun d => .rfl, fun d => .rfl⟩)
    (hinit := init m ρ)
    (QY := fun d s => (s.mem ((d : Thread nD τ).loc main_v3) = outArr m d
        ∧ s.mem ((d : Thread nD τ).loc main_arg0) = m ((d : Thread nD τ).loc main_arg0)
        ∧ s.mem ((d : Thread nD τ).loc main_arg1) = m ((d : Thread nD τ).loc main_arg1)
        ∧ s.mem ((d : Thread nD τ).loc main_arg2) = m ((d : Thread nD τ).loc main_arg2)) ∧ s.sem (barCell d) = 0)
    (hfin := fun d s' => by
      iintro ⟨HL, HSI⟩
      ihave ⟨H0, H1, H2, H4, HB⟩ := (left_split m d) $$ HL
      icombine HSI H0 gives %h0
      icombine HSI H1 gives %h1
      icombine HSI H2 gives %h2
      icombine HSI H4 gives %h4
      icombine HSI HB gives %hb
      imodintro
      isplitr
      · ipureintro
        exact ⟨⟨Buf.eq_of_forall_mem_univ h4, Buf.eq_of_forall_mem_univ h0, Buf.eq_of_forall_mem_univ h1, Buf.eq_of_forall_mem_univ h2⟩, by simpa using hb⟩
      iexact HSI)
    (hQ := fun s h hs => ⟨fun d => (h d).1, sem_eq_zero hs fun d sm hsm => by
      rw [only_bar sm hsm]
      exact (h d).2⟩)

end Cert.KernelIdeal.Mesh

end
-- ==== Proof.KernelIdeal.Value.lean ====
/-
The value of the kernel's result over the extended reals: on every device the root mean square norm of the sum of the two partial blocks and the residual, scaled by the weights.
-/
module

public import proofs.«01_k».proof.Proof.KernelIdeal.Launch
public import Idealize.ShloMosaic.Lib.Pointwise

@[expose] public section

noncomputable section

namespace Cert.KernelIdeal.Mesh

open Cert.KernelIdeal Cert.KernelIdeal.Gen

open Idealize.ShloMosaic
open Idealize.ShloMosaic.TcCoe
open Idealize.ShloMosaic.ValueIdx hiding ix1 ix2 ix3
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → S8192x2048.Idx → Elt F .f32)

open Idealize.ShloMosaic.Pipeline (Dat BodyObligation)

/-! ## The mathematics -/

/-- The sum that is normalised, at row `r` and column `c`: the two partial sums `A` and the residual `R`. -/
def total (A : (⟨3, ![2, 8192, 2048]⟩ : Shape).Idx → EReal) (R : S8192x2048.Idx → EReal) (r : Fin 8192) (c : Fin 2048) : EReal :=
  A (ix3 0 r c) + A (ix3 1 r c) + R (ix2 r c)

/-- A row `y` divided by the root of its mean square plus epsilon, times the weight, at column `c`. -/
def normed (y g : Fin 2048 → EReal) (c : Fin 2048) : EReal :=
  Ideal.div (y c) (Ideal.sqrt (Ideal.div (∑ k : Fin 2048, y k * y k) (Ideal.ofBits .f32 0x45000000#32) + Ideal.ofBits .f32 0x358637BD#32)) * g c

/-- The whole result of the partial sums `A`, the residual `R` and the weights `g`. -/
def result (A : (⟨3, ![2, 8192, 2048]⟩ : Shape).Idx → EReal) (R : S8192x2048.Idx → EReal) (g : S2048.Idx → EReal) : S8192x2048.Idx → EReal :=
  fun i => normed (total A R (i 0)) (fun c => g (ix1 c)) (i 1)

/-! ## The kernel's arithmetic, read at an element -/

/-- The sum a step normalises, at an element. -/
theorem sum_apply (P R : S512x2048.Idx → EReal) (Q : S1x512x2048.Idx → EReal) (r : Fin 512) (c : Fin 2048) :
    k0_pay2 (F := Ideal) P R Q (ix2 r c) = P (ix2 r c) + R (ix2 r c) + Q (ix3 0 r c) := by
  pointwise [k0_pay2]

/-- The block a step writes, at an element. -/
theorem norm_apply (y : S512x2048.Idx → EReal) (g : S1x2048.Idx → EReal) (r : Fin 512) (c : Fin 2048) :
    k0_pay1 (F := Ideal) y g (ix2 r c) = normed (fun k => y (ix2 r k)) (fun k => g (ix2 0 k)) c := by
  unfold normed
  pointwise [k0_pay1]

/-! ## The blocks as the kernel finds them -/

section Blocks

variable (m : (ℓ : Loc nD τ sig) → Buf (Elt Ideal) ℓ)

/-- Where the residual's block and the partial block of step `t` start, and the block of the result it writes. -/
theorem index1 : ∀ t : Fin cfg0.N, win0_1.index t = ![min (t.val - 3) 15, 0] := (by decide +kernel : ∀ t : Fin grid0.N, win0_1.index t = ![min (t.val - 3) 15, 0])
/-- The weights' block is the same at every step. -/
theorem index2 : ∀ t : Fin cfg0.N, win0_2.index t = ![0, 0] := (by decide +kernel : ∀ t : Fin grid0.N, win0_2.index t = ![0, 0])
theorem index3 : ∀ t : Fin cfg0.N, win0_3.index t = ![min (t.val - 3) 15, 0] := (by decide +kernel : ∀ t : Fin grid0.N, win0_3.index t = ![min (t.val - 3) 15, 0])
theorem index4 : ∀ t : Fin cfg0.N, win0_4.index t = ![min (t.val - 3) 15, 0] := (by decide +kernel : ∀ t : Fin grid0.N, win0_4.index t = ![min (t.val - 3) 15, 0])

/-- The first argument without its unit axis, at an element. -/
theorem reshape_part_apply (x : S1x8192x2048.Idx → EReal) (r : Fin 8192) (c : Fin 2048) :
    shapeCast S8192x2048 x shapeCasts_S1x8192x2048_S8192x2048 (ix2 r c) = x (ix3 0 r c) := by
  pointwise

/-- The weights as one row, at an element. -/
theorem reshape_weight_apply (x : S2048.Idx → EReal) (c : Fin 2048) :
    shapeCast S1x2048 x shapeCasts_S2048_S1x2048 (ix2 0 c) = x (ix1 c) := by
  pointwise

/-- The partial sums the kernel works on are the device's first argument without its unit axis. -/
theorem part_apply (d : Dev nD) (r : Fin 8192) (c : Fin 2048) :
    part m d (ix2 r c) = m ((d : Thread nD τ).loc main_arg0) (ix3 0 r c) := by
  have h : part m d = shapeCast S8192x2048 (m ((d : Thread nD τ).loc main_arg0)) shapeCasts_S1x8192x2048_S8192x2048 := by
    unfold part V
    after_results
    rfl
  rw [h]
  exact reshape_part_apply _ r c

/-- The weights the kernel works on are the device's third argument as one row. -/
theorem weight_apply (d : Dev nD) (c : Fin 2048) :
    V m d main_v2 (ix2 0 c) = m ((d : Thread nD τ).loc main_arg2) (ix1 c) := by
  have h : V m d main_v2 = shapeCast S1x2048 (m ((d : Thread nD τ).loc main_arg2)) shapeCasts_S2048_S1x2048 := by
    unfold V
    after_results
    rfl
  rw [h]
  exact reshape_weight_apply _ c

/-- The row of the arrays that row `r` of the block of step `t` is. -/
def rowOf (t : Fin cfg0.N) (r : Fin 512) : Fin 8192 := ⟨512 * min (t.val - 3) 15 + r.val, by have := r.isLt; omega⟩

/-- The residual's block of step `t`, the weights and the partial block of step `t`, at an element. -/
theorem iblk_resid (d : Dev nD) (t : Fin cfg0.N) (r : Fin 512) (c : Fin 2048) :
    iblk m d 1 t (ix2 r c) = m ((d : Thread nD τ).loc main_arg1) (ix2 (rowOf t r) c) := by
  rw [← V_main_arg1 m d]
  show V m d main_arg1 ((win0_1.blk t).view.emb (ix2 r c)) = V m d main_arg1 (ix2 (rowOf t r) c)
  refine congrArg _ ?_
  unfold rowOf
  blk_ext [index1]

/-- The weights of step `t`, at a column. -/
theorem iblk_weight (d : Dev nD) (t : Fin cfg0.N) (c : Fin 2048) :
    iblk m d 2 t (ix2 0 c) = m ((d : Thread nD τ).loc main_arg2) (ix1 c) := by
  rw [← weight_apply m d]
  show V m d main_v2 ((win0_2.blk t).view.emb (ix2 0 c)) = V m d main_v2 (ix2 0 c)
  refine congrArg _ ?_
  blk_ext [index2]

/-- The partial block of step `t`, at an element. -/
theorem iblk_part (d : Dev nD) (t : Fin cfg0.N) (r : Fin 512) (c : Fin 2048) :
    iblk m d 3 t (ix2 r c) = part m d (ix2 (rowOf t r) c) := by
  show V m d main_v1 ((win0_3.blk t).view.emb (ix2 r c)) = V m d main_v1 (ix2 (rowOf t r) c)
  refine congrArg _ ?_
  unfold rowOf
  blk_ext [index3]

/-- Every row a device gathers comes from a device of the other half of the mesh's last axis. -/
theorem own_half : ∀ (k : Fin 6) (d : Dev nD), (own k d).val % 2 = 1 - d.val % 2 := by decide

/-- The device's half of the partial sums, and the other half, add up to both in either order. -/
theorem halves (A : (⟨3, ![2, 8192, 2048]⟩ : Shape).Idx → EReal) (R : S8192x2048.Idx → EReal) (z : ℕ) (h : z < 2) (r : Fin 8192) (c : Fin 2048) :
    A (ix3 ⟨z, h⟩ r c) + R (ix2 r c) + A (ix3 ⟨1 - z, by omega⟩ r c) = total A R r c := by
  unfold total
  interval_cases z
  · show A (ix3 0 r c) + R (ix2 r c) + A (ix3 1 r c) = _
    rw [add_right_comm]
  · show A (ix3 1 r c) + R (ix2 r c) + A (ix3 0 r c) = _
    rw [add_right_comm, add_comm (A (ix3 1 r c))]

/-! Below `A` is the partial sums of both halves of the mesh's last axis, `R` the residual and `g` the weights, as the devices
hold them. -/

variable (A : (⟨3, ![2, 8192, 2048]⟩ : Shape).Idx → EReal) (R : S8192x2048.Idx → EReal) (g : S2048.Idx → EReal)
  (hA : ∀ (d : Dev nD) (r : Fin 8192) (c : Fin 2048), m ((d : Thread nD τ).loc main_arg0) (ix3 0 r c) = A (ix3 ⟨d.val % 2, Nat.mod_lt _ Nat.two_pos⟩ r c))
  (hR : ∀ d : Dev nD, m ((d : Thread nD τ).loc main_arg1) = R) (hg : ∀ d : Dev nD, m ((d : Thread nD τ).loc main_arg2) = g)

include hA in
/-- The slot of the block that step `t` works on holds the other half of the partial sums of its rows. -/
theorem slot_apply (d : Dev nD) (t : Fin cfg0.N) (ht : 3 ≤ t.val) (r : Fin 512) (c : Fin 2048) :
    slotv (part m) d (t.val + 2) (ix3 0 r c) = A (ix3 ⟨1 - d.val % 2, by omega⟩ (rowOf t r) c) := by
  have hN : t.val < 19 := t.isLt
  have hr : r.val < 512 := r.isLt
  show part m (own (kindOf d r.val) d) (ix2 ⟨(512 * (t.val + 2 - 5) + r.val) % 8192, _⟩ c) = _
  rw [part_apply, hA]
  refine congrArg A ?_
  have e : (⟨(512 * (t.val + 2 - 5) + r.val) % 8192, Nat.mod_lt _ (by decide)⟩ : Fin 8192) = rowOf t r := Fin.ext (by
    show (512 * (t.val + 2 - 5) + r.val) % 8192 = 512 * min (t.val - 3) 15 + r.val
    omega)
  have e' : (⟨(own (kindOf d r.val) d).val % 2, Nat.mod_lt _ (by decide)⟩ : Fin 2) = ⟨1 - d.val % 2, by omega⟩ := Fin.ext (own_half _ d)
  rw [e, e']

include hA hR hg in
/-- The block that step `t` writes is the result's block. -/
theorem out_apply (d : Dev nD) (t : Fin cfg0.N) (ht : 3 ≤ t.val) (r : Fin 512) (c : Fin 2048) :
    outv (part m) (iblk m d 3 t) (iblk m d 1 t) (iblk m d 2 t) d (t.val + 2) (ix2 r c) = result A R g (ix2 (rowOf t r) c) := by
  unfold outv
  refine (norm_apply _ _ r c).trans ?_
  show normed _ _ c = normed (total A R (rowOf t r)) (fun c => g (ix1 c)) c
  congr 1
  · funext k
    rw [sum_apply, iblk_part, iblk_resid, part_apply, hA, hR, slot_apply m A hA d t ht]
    exact halves A R _ _ _ _
  · funext k
    rw [iblk_weight, hg]

include hA hR hg in
/-- Every device's result is the whole result. -/
theorem outArr_eq (d : Dev nD) : outArr m d = result A R g := by
  unfold outArr
  refine (dat m d).arrAt_eq_of_covers 4 _ (by decide +kernel) fun t hf y => ?_
  have ht : 3 ≤ t.val := (idle_iff t).2.mp hf
  blk_simp
  have h := out_apply m A R g hA hR hg d t ht (y 0) (y 1)
  refine Eq.trans ?_ (h.trans (congrArg (result A R g) ?_))
  · exact congrArg (outv (part m) (iblk m d 3 t) (iblk m d 1 t) (iblk m d 2 t) d (t.val + 2)) (Idealize.ShloMosaic.eq_ix2 y)
  · unfold rowOf
    blk_ext [index4]

end Blocks

end Cert.KernelIdeal.Mesh

end
-- ==== Proof.Reference.lean ====
/-
The value of the reference's result over the extended reals: the root mean square norm of the sum of the partial blocks and the
residual, scaled by the weights, the same function of the arguments as the kernel's result.
-/
module

public import proofs.«01_k».proof.Proof.KernelIdeal.Value
public import proofs.«01_k».proof.Proof.Gen.ReferenceIdeal.Run

@[expose] public section

noncomputable section

namespace Cert.ReferenceIdeal.Result

open Cert.ReferenceIdeal Cert.ReferenceIdeal.Gen Idealize.ShloMosaic Idealize.ShloMosaic.TcCoe Idealize.SL.Sem
open Cert.KernelIdeal.Mesh (total normed result)

variable (A : S2x8192x2048.Idx → EReal) (R : S8192x2048.Idx → EReal) (g : S2048.Idx → EReal)

/-- The reference's sum of the partial blocks and the residual. -/
def summed : FVec Ideal S8192x2048 .f32 :=
  addf (Host.reduceAdd (F := Ideal) (φ := .f32) A (constant S_ .f32 0x00000000#32) reducesTo_S2x8192x2048_S8192x2048_d0 h_S_) R

/-- The reference's result, as its operations compose it. -/
def composed : FVec Ideal S8192x2048 .f32 :=
  mulf (Host.divf (summed A R) (broadcastInDim S8192x2048 ![0, 1] bcast_S8192x1_S8192x2048_0_1 (Host.sqrt (addf (Host.divf (broadcastInDim S8192x1 ![0] bcast_S8192_S8192x1_0 (Host.reduceAdd (mulf (summed A R) (summed A R)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

/-- The reference's sum, at an element. -/
theorem summed_apply (r : Fin 8192) (c : Fin 2048) : summed A R (ix2 r c) = total A R r c := by
  unfold total
  pointwise [summed]
  rw [Fin.sum_univ_two]

/-- The reference's result is the root mean square norm of the sum, scaled by the weights. -/
theorem composed_eq : composed A R g = result A R g := by
  funext i
  obtain ⟨r, c, rfl⟩ : ∃ (r : Fin 8192) (c : Fin 2048), i = ix2 r c := ⟨i 0, i 1, eq_ix2 i⟩
  show _ = normed (total A R r) (fun k => g (ix1 k)) c
  have e : total A R r = fun k => summed A R (ix2 r k) := funext fun k => (summed_apply A R r k).symm
  rw [e]
  unfold normed
  generalize hy : summed A R = y
  unfold composed
  rw [hy]
  pointwise

end Cert.ReferenceIdeal.Result

end
-- ==== Proof.lean ====
/-
The certificate of the fused reduce and norm kernel on eight devices.

  * `frame_kernel`, `frame_ideal`, `frame_reference`: each program runs to its end from any memory, its arguments unchanged and
    every semaphore counter at zero. For the kernel they are `run_main` (Kernel/Launch.lean, KernelIdeal/Launch.lean) without the
    result's contents.
  * `algebraic`: over the extended reals every device of the kernel ends with the reference's result.
-/
module

public import proofs.«01_k».proof.Defs
public import proofs.«01_k».proof.Proof.Kernel.Launch
public import proofs.«01_k».proof.Proof.KernelIdeal.Value
public import proofs.«01_k».proof.Proof.Reference

@[expose] public section

noncomputable section

namespace Cert.Proof

open Idealize.ShloMosaic Idealize.SL.Sem

/-- The kernel at its own floats: it ends, its arguments unchanged, its counters at zero. -/
theorem frame_kernel : Cert.quiescent_Kernel (hKernel := Cert.Kernel.Gen.facts) := fun m g _ =>
  (θ_run _ _ _).mono (fun _ h => ⟨fun c => (h.1 c).2, h.2⟩) (Cert.Kernel.Mesh.run_main m g)

/-- The kernel over the extended reals: the same. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Mesh.run_main m g)

/-- The reference over the extended reals: the same; it declares no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- The block of the partial sums that device `d` of the mesh holds is the half its last coordinate names. -/
theorem half_apply (A : (⟨3, ![2, 8192, 2048]⟩ : Shape).Idx → EReal) (d : Fin 8) (r : Fin 8192) (c : Fin 2048) :
    (Layout.blockN ⟨3, ![1, 8192, 2048]⟩ ⟨3, ![2, 8192, 2048]⟩ (Layout.meshBlock [2, 2, 2] ![[2], [], []] d) A : _ → EReal) (ix3 0 r c)
      = A (ix3 ⟨d.val % 2, Nat.mod_lt _ Nat.two_pos⟩ r c) := by
  rw [Layout.blockN_apply]
  refine congrArg A (funext fun a => Fin.ext ?_)
  have hz : ∀ d : Fin 8, Layout.meshLin [2, 2, 2] d.val [2] = d.val % 2 := by decide
  match a with
  | ⟨0, _⟩ =>
    show Layout.meshLin [2, 2, 2] d.val [2] * 1 + 0 = d.val % 2
    rw [hz, Nat.mul_one, Nat.add_zero]
  | ⟨1, _⟩ =>
    show 0 * 8192 + r.val = r.val
    rw [Nat.zero_mul, Nat.zero_add]
  | ⟨2, _⟩ =>
    show 0 * 2048 + c.val = c.val
    rw [Nat.zero_mul, Nat.zero_add]

/-- Over the extended reals every device of the kernel ends with the reference's result. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, (θ_run _ _ _).mono (fun _ h c => ⟨(h.1 c).1.trans ?_, (h.1 c).2⟩) (Cert.KernelIdeal.Mesh.run_main m g),
    (θ_run _ _ _).mono (fun _ h => ⟨(h 0).1.trans (Cert.ReferenceIdeal.Result.composed_eq _ _ _), (h 0).2⟩)
      (Cert.ReferenceIdeal.Value.run m' g')⟩
  refine Cert.KernelIdeal.Mesh.outArr_eq m _ _ _ (fun d r k => ?_) (fun d => (hm d).2.1) (fun d => (hm d).2.2) c
  exact (congrFun (hm d).1 (ix3 0 r k)).trans (half_apply _ d r k)

/-- All the claims, with the side conditions the programs state. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
